-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![16384, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S512x256 .bf16) (main_arg1 : FVec F S256x64 .bf16) (main_arg2 : IVec S512x2 32) (main_arg3 : FVec F S2x256x512 .bf16) : IVec S_ 1 :=
  let main_v0 : FVec F S512x256 .f32 := (extf .f32 · bitsLt_bf16_f32) main_arg0
  let main_v1 : FVec F S256x64 .f32 := (extf .f32 · bitsLt_bf16_f32) main_arg1
  let main_v2 : FVec F S512x256 .f32 := Host.absf main_v0
  let main_cst : FVec F S_ .f32 := constant S_ .f32 0x7F800000#32
  let main_v3 : FVec F S512x256 .f32 := broadcastInDim S512x256 ![] bcast_S_S512x256 main_cst
  let main_v4 : IVec S512x256 1 := cmpf .olt main_v2 main_v3
  let main_c : IVec S_ 1 := constantI S_ 1 1#1
  let main_v5 : IVec S_ 1 := (fun x v => Host.reduce IntOp.andi x v reducesTo_S512x256_S_d0_1 h_S_) main_v4 main_c
  let main_v6 : FVec F S256x64 .f32 := Host.absf main_v1
  let main_cst_0 : FVec F S_ .f32 := constant S_ .f32 0x7F800000#32
  let main_v7 : FVec F S256x64 .f32 := broadcastInDim S256x64 ![] bcast_S_S256x64 main_cst_0
  let main_v8 : IVec S256x64 1 := cmpf .olt main_v6 main_v7
  let main_c_1 : IVec S_ 1 := constantI S_ 1 1#1
  let main_v9 : IVec S_ 1 := (fun x v => Host.reduce IntOp.andi x v reducesTo_S256x64_S_d0_1 h_S_) main_v8 main_c_1
  let main_v10 : IVec S_ 1 := andi main_v5 main_v9
  let main_c_2 : IVec S_ 32 := constantI S_ 32 0#32
  let main_v11 : IVec S512x2 32 := broadcastInDim S512x2 ![] bcast_S_S512x2 main_c_2
  let main_v12 : IVec S512x2 1 := cmpi .sge main_arg2 main_v11
  let main_c_3 : IVec S_ 32 := constantI S_ 32 64#32
  let main_v13 : IVec S512x2 32 := broadcastInDim S512x2 ![] bcast_S_S512x2 main_c_3
  let main_v14 : IVec S512x2 1 := cmpi .slt main_arg2 main_v13
  let main_v15 : IVec S512x2 1 := andi main_v12 main_v14
  let main_c_4 : IVec S_ 1 := constantI S_ 1 1#1
  let main_v16 : IVec S_ 1 := (fun x v => Host.reduce IntOp.andi x v reducesTo_S512x2_S_d0_1 h_S_) main_v15 main_c_4
  fn_part1 (F := F) main_v10 main_v16
-- ==== Pre_finite_and_routed_ReferenceIdeal.lean ====
abbrev S16384x256 : Shape := ⟨2, ![16384, 256]⟩
abbrev S256x64 : Shape := ⟨2, ![256, 64]⟩
abbrev S16384x2 : Shape := ⟨2, ![16384, 2]⟩
abbrev S64x256x512 : Shape := ⟨3, ![64, 256, 512]⟩
abbrev S_ : Shape := ⟨0, ![]⟩

class Facts : Prop where
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S16384x2 : S_.BroadcastsInDim S16384x2 (![] : Fin 0 → Fin S16384x2.rank)
  reducesTo_S16384x2_S_d0_1 : S16384x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S16384x256 .bf16) (main_arg1 : FVec F S256x64 .bf16) (main_arg2 : IVec S16384x2 32) (main_arg3 : FVec F S64x256x512 .bf16) : IVec S_ 1 :=
  let main_v0 : FVec F S16384x256 .f32 := (extf .f32 · bitsLt_bf16_f32) main_arg0
  let main_v1 : FVec F S256x64 .f32 := (extf .f32 · bitsLt_bf16_f32) main_arg1
  let main_v2 : FVec F S16384x256 .f32 := Host.absf main_v0
  let main_cst : FVec F S_ .f32 := constant S_ .f32 0x7F800000#32
  let main_v3 : FVec F S16384x256 .f32 := broadcastInDim S16384x256 ![] bcast_S_S16384x256 main_cst
  let main_v4 : IVec S16384x256 1 := cmpf .olt main_v2 main_v3
  let main_c : IVec S_ 1 := constantI S_ 1 1#1
  let main_v5 : IVec S_ 1 := (fun x v => Host.reduce IntOp.andi x v reducesTo_S16384x256_S_d0_1 h_S_) main_v4 main_c
  let main_v6 : FVec F S256x64 .f32 := Host.absf main_v1
  let main_cst_0 : FVec F S_ .f32 := constant S_ .f32 0x7F800000#32
  let main_v7 : FVec F S256x64 .f32 := broadcastInDim S256x64 ![] bcast_S_S256x64 main_cst_0
  let main_v8 : IVec S256x64 1 := cmpf .olt main_v6 main_v7
  let main_c_1 : IVec S_ 1 := constantI S_ 1 1#1
  let main_v9 : IVec S_ 1 := (fun x v => Host.reduce IntOp.andi x v reducesTo_S256x64_S_d0_1 h_S_) main_v8 main_c_1
  let main_v10 : IVec S_ 1 := andi main_v5 main_v9
  let main_c_2 : IVec S_ 32 := constantI S_ 32 0#32
  let main_v11 : IVec S16384x2 32 := broadcastInDim S16384x2 ![] bcast_S_S16384x2 main_c_2
  let main_v12 : IVec S16384x2 1 := cmpi .sge main_arg2 main_v11
  let main_c_3 : IVec S_ 32 := constantI S_ 32 64#32
  let main_v13 : IVec S16384x2 32 := broadcastInDim S16384x2 ![] bcast_S_S16384x2 main_c_3
  let main_v14 : IVec S16384x2 1 := cmpi .slt main_arg2 main_v13
  let main_v15 : IVec S16384x2 1 := andi main_v12 main_v14
  let main_c_4 : IVec S_ 1 := constantI S_ 1 1#1
  let main_v16 : IVec S_ 1 := (fun x v => Host.reduce IntOp.andi x v reducesTo_S16384x2_S_d0_1 h_S_) main_v15 main_c_4
  fn_part1 (F := F) main_v10 main_v16
-- ==== Kernel.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S512x512 : Shape := ⟨2, ![512, 512]⟩
abbrev S8x4x256x512 : Shape := ⟨4, ![8, 4, 256, 512]⟩
abbrev S7x4x256x512 : Shape := ⟨4, ![7, 4, 256, 512]⟩
abbrev S8x2x256x512 : Shape := ⟨4, ![8, 2, 256, 512]⟩
abbrev S7x2x256x512 : Shape := ⟨4, ![7, 2, 256, 512]⟩
abbrev S2 : Shape := ⟨1, ![2]⟩
abbrev S8x4 : Shape := ⟨2, ![8, 4]⟩
abbrev S7x4 : Shape := ⟨2, ![7, 4]⟩
abbrev S8x2 : Shape := ⟨2, ![8, 2]⟩
abbrev S7x2 : Shape := ⟨2, ![7, 2]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S1x1 : Shape := ⟨2, ![1, 1]⟩
abbrev S1x1x256x512 : Shape := ⟨4, ![1, 1, 256, 512]⟩
abbrev S512x64 : Shape := ⟨2, ![512, 64]⟩
abbrev S512 : Shape := ⟨1, ![512]⟩
abbrev S512x1 : Shape := ⟨2, ![512, 1]⟩

abbrev nBuf : Space → Nat
  | .hbm => 5
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S256x64, .bf16⟩
  | .local _ .vmem, ⟨2, _⟩ => ⟨S512x2, .i32⟩
  | .local _ .vmem, ⟨3, _⟩ => ⟨S2x256x512, .bf16⟩
  | .local _ .vmem, ⟨4, _⟩ => ⟨S512x512, .f32⟩
  | .local _ .vmem, ⟨5, _⟩ => ⟨S2x256x512, .bf16⟩
  | .local _ .vmem, ⟨6, _⟩ => ⟨S2x256x512, .bf16⟩
  | .local _ .vmem, ⟨7, _⟩ => ⟨S8x4x256x512, .bf16⟩
  | .local _ .vmem, ⟨8, _⟩ => ⟨S7x4x256x512, .bf16⟩
  | .local _ .vmem, ⟨9, _⟩ => ⟨S8x2x256x512, .bf16⟩
  | .local _ .vmem, ⟨10, _⟩ => ⟨S7x2x256x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 189 → Bool
  | ⟨i, _⟩ => dmaSemScopedAt i

abbrev sig : RefSig :=
  (ofTc nBuf bufTy 1 189 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_109 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_108 : BitVec 32 := 1#32
  let v184 : BitVec 32 := Scalar.muli v139 c1_i32_108
  let v185 : BitVec 32 := Scalar.addi c0_i32_109 v184
  v185.toNat
def k0_dev2 (d0 : Dev nD) : Nat :=
  let c0_i32_112 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_111 : BitVec 32 := 1#32
  let v186 : BitVec 32 := Scalar.muli v182 c1_i32_111
  let v187 : BitVec 32 := Scalar.addi c0_i32_112 v186
  v187.toNat
def k0_dev3 (d0 : Dev nD) : Nat :=
  let c0_i32_115 : BitVec 32 := 0#32
  let c8_i32_40 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v89 : BitVec 32 := Scalar.muli c8_i32_40 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_33 : BitVec 32 := 2#32
  let c0_i32_34 : BitVec 32 := 0#32
  let v78 : BitVec 1 := Scalar.cmpi .eq c2_i32_33 c0_i32_34
  let c1_i32_35 : BitVec 32 := 1#32
  let v79 : BitVec 32 := Scalar.select v78 c1_i32_35 c2_i32_33
  let v80 : BitVec 32 := Scalar.remsi v46 v79
  let c0_i32_37 : BitVec 32 := 0#32
  let v82 : BitVec 1 := Scalar.cmpi .slt v80 c0_i32_37
  let c0_i32_38 : BitVec 32 := 0#32
  let v83 : BitVec 1 := Scalar.cmpi .slt v79 c0_i32_38
  let v84 : BitVec 1 := Scalar.xori v82 v83
  let c0_i32_36 : BitVec 32 := 0#32
  let v81 : BitVec 1 := Scalar.cmpi .ne v80 c0_i32_36
  let v85 : BitVec 1 := Scalar.andi v84 v81
  let v86 : BitVec 32 := Scalar.addi v80 v79
  let v87 : BitVec 32 := Scalar.select v85 v86 v80
  let c0_i32_39 : BitVec 32 := 0#32
  let v88 : BitVec 1 := Scalar.cmpi .eq v87 c0_i32_39
  let c2_i32_41 : BitVec 32 := 2#32
  let v90 : BitVec 32 := Scalar.muli c2_i32_41 v46
  let c1_i32_32 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v77 : BitVec 32 := Scalar.subi c1_i32_32 v63
  let v91 : BitVec 32 := Scalar.addi v90 v77
  let c2_i32_42 : BitVec 32 := 2#32
  let v92 : BitVec 32 := Scalar.muli c2_i32_42 v46
  let c1_i32_43 : BitVec 32 := 1#32
  let v93 : BitVec 32 := Scalar.addi v92 c1_i32_43
  let v94 : BitVec 32 := Scalar.subi v93 v77
  let v95 : BitVec 32 := Scalar.select v88 v91 v94
  let v96 : BitVec 32 := Scalar.addi v89 v95
  let c1_i32_114 : BitVec 32 := 1#32
  let v188 : BitVec 32 := Scalar.muli v96 c1_i32_114
  let v189 : BitVec 32 := Scalar.addi c0_i32_115 v188
  v189.toNat
def k0_dev4 (d0 : Dev nD) : Nat :=
  let c0_i32_127 : BitVec 32 := 0#32
  let c8_i32_40 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v89 : BitVec 32 := Scalar.muli c8_i32_40 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_33 : BitVec 32 := 2#32
  let c0_i32_34 : BitVec 32 := 0#32
  let v78 : BitVec 1 := Scalar.cmpi .eq c2_i32_33 c0_i32_34
  let c1_i32_35 : BitVec 32 := 1#32
  let v79 : BitVec 32 := Scalar.select v78 c1_i32_35 c2_i32_33
  let v80 : BitVec 32 := Scalar.remsi v46 v79
  let c0_i32_37 : BitVec 32 := 0#32
  let v82 : BitVec 1 := Scalar.cmpi .slt v80 c0_i32_37
  let c0_i32_38 : BitVec 32 := 0#32
  let v83 : BitVec 1 := Scalar.cmpi .slt v79 c0_i32_38
  let v84 : BitVec 1 := Scalar.xori v82 v83
  let c0_i32_36 : BitVec 32 := 0#32
  let v81 : BitVec 1 := Scalar.cmpi .ne v80 c0_i32_36
  let v85 : BitVec 1 := Scalar.andi v84 v81
  let v86 : BitVec 32 := Scalar.addi v80 v79
  let v87 : BitVec 32 := Scalar.select v85 v86 v80
  let c0_i32_39 : BitVec 32 := 0#32
  let v88 : BitVec 1 := Scalar.cmpi .eq v87 c0_i32_39
  let c2_i32_41 : BitVec 32 := 2#32
  let v90 : BitVec 32 := Scalar.muli c2_i32_41 v46
  let c1_i32_32 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v77 : BitVec 32 := Scalar.subi c1_i32_32 v63
  let v91 : BitVec 32 := Scalar.addi v90 v77
  let c2_i32_42 : BitVec 32 := 2#32
  let v92 : BitVec 32 := Scalar.muli c2_i32_42 v46
  let c1_i32_43 : BitVec 32 := 1#32
  let v93 : BitVec 32 := Scalar.addi v92 c1_i32_43
  let v94 : BitVec 32 := Scalar.subi v93 v77
  let v95 : BitVec 32 := Scalar.select v88 v91 v94
  let v96 : BitVec 32 := Scalar.addi v89 v95
  let c1_i32_126 : BitVec 32 := 1#32
  let v195 : BitVec 32 := Scalar.muli v96 c1_i32_126
  let v196 : BitVec 32 := Scalar.addi c0_i32_127 v195
  v196.toNat
def k0_dev5 (d0 : Dev nD) : Nat :=
  let c0_i32_137 : BitVec 32 := 0#32
  let c8_i32_40 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v89 : BitVec 32 := Scalar.muli c8_i32_40 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_33 : BitVec 32 := 2#32
  let c0_i32_34 : BitVec 32 := 0#32
  let v78 : BitVec 1 := Scalar.cmpi .eq c2_i32_33 c0_i32_34
  let c1_i32_35 : BitVec 32 := 1#32
  let v79 : BitVec 32 := Scalar.select v78 c1_i32_35 c2_i32_33
  let v80 : BitVec 32 := Scalar.remsi v46 v79
  let c0_i32_37 : BitVec 32 := 0#32
  let v82 : BitVec 1 := Scalar.cmpi .slt v80 c0_i32_37
  let c0_i32_38 : BitVec 32 := 0#32
  let v83 : BitVec 1 := Scalar.cmpi .slt v79 c0_i32_38
  let v84 : BitVec 1 := Scalar.xori v82 v83
  let c0_i32_36 : BitVec 32 := 0#32
  let v81 : BitVec 1 := Scalar.cmpi .ne v80 c0_i32_36
  let v85 : BitVec 1 := Scalar.andi v84 v81
  let v86 : BitVec 32 := Scalar.addi v80 v79
  let v87 : BitVec 32 := Scalar.select v85 v86 v80
  let c0_i32_39 : BitVec 32 := 0#32
  let v88 : BitVec 1 := Scalar.cmpi .eq v87 c0_i32_39
  let c2_i32_41 : BitVec 32 := 2#32
  let v90 : BitVec 32 := Scalar.muli c2_i32_41 v46
  let c1_i32_32 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v77 : BitVec 32 := Scalar.subi c1_i32_32 v63
  let v91 : BitVec 32 := Scalar.addi v90 v77
  let c2_i32_42 : BitVec 32 := 2#32
  let v92 : BitVec 32 := Scalar.muli c2_i32_42 v46
  let c1_i32_43 : BitVec 32 := 1#32
  let v93 : BitVec 32 := Scalar.addi v92 c1_i32_43
  let v94 : BitVec 32 := Scalar.subi v93 v77
  let v95 : BitVec 32 := Scalar.select v88 v91 v94
  let v96 : BitVec 32 := Scalar.addi v89 v95
  let c1_i32_136 : BitVec 32 := 1#32
  let v205 : BitVec 32 := Scalar.muli v96 c1_i32_136
  let v206 : BitVec 32 := Scalar.addi c0_i32_137 v205
  v206.toNat
def k0_dev6 (d0 : Dev nD) : Nat :=
  let c0_i32_150 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_149 : BitVec 32 := 1#32
  let v215 : BitVec 32 := Scalar.muli v139 c1_i32_149
  let v216 : BitVec 32 := Scalar.addi c0_i32_150 v215
  v216.toNat
def k0_dev7 (d0 : Dev nD) : Nat :=
  let c0_i32_163 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_162 : BitVec 32 := 1#32
  let v225 : BitVec 32 := Scalar.muli v182 c1_i32_162
  let v226 : BitVec 32 := Scalar.addi c0_i32_163 v225
  v226.toNat
def k0_dev8 (d0 : Dev nD) : Nat :=
  let c0_i32_176 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_175 : BitVec 32 := 1#32
  let v235 : BitVec 32 := Scalar.muli v139 c1_i32_175
  let v236 : BitVec 32 := Scalar.addi c0_i32_176 v235
  v236.toNat
def k0_dev9 (d0 : Dev nD) : Nat :=
  let c0_i32_189 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_188 : BitVec 32 := 1#32
  let v245 : BitVec 32 := Scalar.muli v182 c1_i32_188
  let v246 : BitVec 32 := Scalar.addi c0_i32_189 v245
  v246.toNat
def k0_dev10 (d0 : Dev nD) : Nat :=
  let c0_i32_248 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_247 : BitVec 32 := 1#32
  let v341 : BitVec 32 := Scalar.muli v139 c1_i32_247
  let v342 : BitVec 32 := Scalar.addi c0_i32_248 v341
  v342.toNat
def k0_dev11 (d0 : Dev nD) : Nat :=
  let c0_i32_261 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_260 : BitVec 32 := 1#32
  let v351 : BitVec 32 := Scalar.muli v182 c1_i32_260
  let v352 : BitVec 32 := Scalar.addi c0_i32_261 v351
  v352.toNat
def k0_dev12 (d0 : Dev nD) : Nat :=
  let c0_i32_274 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_273 : BitVec 32 := 1#32
  let v361 : BitVec 32 := Scalar.muli v139 c1_i32_273
  let v362 : BitVec 32 := Scalar.addi c0_i32_274 v361
  v362.toNat
def k0_dev13 (d0 : Dev nD) : Nat :=
  let c0_i32_287 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_286 : BitVec 32 := 1#32
  let v371 : BitVec 32 := Scalar.muli v182 c1_i32_286
  let v372 : BitVec 32 := Scalar.addi c0_i32_287 v371
  v372.toNat
def k0_dev14 (d0 : Dev nD) : Nat :=
  let c0_i32_328 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_327 : BitVec 32 := 1#32
  let v419 : BitVec 32 := Scalar.muli v139 c1_i32_327
  let v420 : BitVec 32 := Scalar.addi c0_i32_328 v419
  v420.toNat
def k0_dev15 (d0 : Dev nD) : Nat :=
  let c0_i32_355 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_354 : BitVec 32 := 1#32
  let v437 : BitVec 32 := Scalar.muli v139 c1_i32_354
  let v438 : BitVec 32 := Scalar.addi c0_i32_355 v437
  v438.toNat
def k0_dev16 (d0 : Dev nD) : Nat :=
  let c0_i32_382 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_381 : BitVec 32 := 1#32
  let v455 : BitVec 32 := Scalar.muli v139 c1_i32_381
  let v456 : BitVec 32 := Scalar.addi c0_i32_382 v455
  v456.toNat
def k0_dev17 (d0 : Dev nD) : Nat :=
  let c0_i32_409 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_408 : BitVec 32 := 1#32
  let v473 : BitVec 32 := Scalar.muli v139 c1_i32_408
  let v474 : BitVec 32 := Scalar.addi c0_i32_409 v473
  v474.toNat
def k0_dev18 (d0 : Dev nD) : Nat :=
  let c0_i32_436 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_435 : BitVec 32 := 1#32
  let v491 : BitVec 32 := Scalar.muli v182 c1_i32_435
  let v492 : BitVec 32 := Scalar.addi c0_i32_436 v491
  v492.toNat
def k0_dev19 (d0 : Dev nD) : Nat :=
  let c0_i32_463 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_462 : BitVec 32 := 1#32
  let v509 : BitVec 32 := Scalar.muli v182 c1_i32_462
  let v510 : BitVec 32 := Scalar.addi c0_i32_463 v509
  v510.toNat
def k0_dev20 (d0 : Dev nD) : Nat :=
  let c0_i32_490 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_489 : BitVec 32 := 1#32
  let v527 : BitVec 32 := Scalar.muli v182 c1_i32_489
  let v528 : BitVec 32 := Scalar.addi c0_i32_490 v527
  v528.toNat
def k0_dev21 (d0 : Dev nD) : Nat :=
  let c0_i32_517 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_516 : BitVec 32 := 1#32
  let v545 : BitVec 32 := Scalar.muli v182 c1_i32_516
  let v546 : BitVec 32 := Scalar.addi c0_i32_517 v545
  v546.toNat
def k0_dev22 (d0 : Dev nD) : Nat :=
  let c0_i32_745 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_744 : BitVec 32 := 1#32
  let v861 : BitVec 32 := Scalar.muli v139 c1_i32_744
  let v862 : BitVec 32 := Scalar.addi c0_i32_745 v861
  v862.toNat
def k0_dev23 (d0 : Dev nD) : Nat :=
  let c0_i32_773 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_772 : BitVec 32 := 1#32
  let v879 : BitVec 32 := Scalar.muli v139 c1_i32_772
  let v880 : BitVec 32 := Scalar.addi c0_i32_773 v879
  v880.toNat
def k0_dev24 (d0 : Dev nD) : Nat :=
  let c0_i32_801 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_800 : BitVec 32 := 1#32
  let v897 : BitVec 32 := Scalar.muli v139 c1_i32_800
  let v898 : BitVec 32 := Scalar.addi c0_i32_801 v897
  v898.toNat
def k0_dev25 (d0 : Dev nD) : Nat :=
  let c0_i32_829 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_828 : BitVec 32 := 1#32
  let v915 : BitVec 32 := Scalar.muli v139 c1_i32_828
  let v916 : BitVec 32 := Scalar.addi c0_i32_829 v915
  v916.toNat
def k0_dev26 (d0 : Dev nD) : Nat :=
  let c0_i32_857 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_856 : BitVec 32 := 1#32
  let v933 : BitVec 32 := Scalar.muli v182 c1_i32_856
  let v934 : BitVec 32 := Scalar.addi c0_i32_857 v933
  v934.toNat
def k0_dev27 (d0 : Dev nD) : Nat :=
  let c0_i32_885 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_884 : BitVec 32 := 1#32
  let v951 : BitVec 32 := Scalar.muli v182 c1_i32_884
  let v952 : BitVec 32 := Scalar.addi c0_i32_885 v951
  v952.toNat
def k0_dev28 (d0 : Dev nD) : Nat :=
  let c0_i32_913 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_912 : BitVec 32 := 1#32
  let v969 : BitVec 32 := Scalar.muli v182 c1_i32_912
  let v970 : BitVec 32 := Scalar.addi c0_i32_913 v969
  v970.toNat
def k0_dev29 (d0 : Dev nD) : Nat :=
  let c0_i32_941 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_940 : BitVec 32 := 1#32
  let v987 : BitVec 32 := Scalar.muli v182 c1_i32_940
  let v988 : BitVec 32 := Scalar.addi c0_i32_941 v987
  v988.toNat
def k0_dev30 (d0 : Dev nD) : Nat :=
  let c0_i32_1171 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1170 : BitVec 32 := 1#32
  let v1303 : BitVec 32 := Scalar.muli v139 c1_i32_1170
  let v1304 : BitVec 32 := Scalar.addi c0_i32_1171 v1303
  v1304.toNat
def k0_dev31 (d0 : Dev nD) : Nat :=
  let c0_i32_1199 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1198 : BitVec 32 := 1#32
  let v1321 : BitVec 32 := Scalar.muli v139 c1_i32_1198
  let v1322 : BitVec 32 := Scalar.addi c0_i32_1199 v1321
  v1322.toNat
def k0_dev32 (d0 : Dev nD) : Nat :=
  let c0_i32_1227 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1226 : BitVec 32 := 1#32
  let v1339 : BitVec 32 := Scalar.muli v139 c1_i32_1226
  let v1340 : BitVec 32 := Scalar.addi c0_i32_1227 v1339
  v1340.toNat
def k0_dev33 (d0 : Dev nD) : Nat :=
  let c0_i32_1255 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1254 : BitVec 32 := 1#32
  let v1357 : BitVec 32 := Scalar.muli v139 c1_i32_1254
  let v1358 : BitVec 32 := Scalar.addi c0_i32_1255 v1357
  v1358.toNat
def k0_dev34 (d0 : Dev nD) : Nat :=
  let c0_i32_1283 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1282 : BitVec 32 := 1#32
  let v1375 : BitVec 32 := Scalar.muli v182 c1_i32_1282
  let v1376 : BitVec 32 := Scalar.addi c0_i32_1283 v1375
  v1376.toNat
def k0_dev35 (d0 : Dev nD) : Nat :=
  let c0_i32_1311 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1310 : BitVec 32 := 1#32
  let v1393 : BitVec 32 := Scalar.muli v182 c1_i32_1310
  let v1394 : BitVec 32 := Scalar.addi c0_i32_1311 v1393
  v1394.toNat
def k0_dev36 (d0 : Dev nD) : Nat :=
  let c0_i32_1339 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1338 : BitVec 32 := 1#32
  let v1411 : BitVec 32 := Scalar.muli v182 c1_i32_1338
  let v1412 : BitVec 32 := Scalar.addi c0_i32_1339 v1411
  v1412.toNat
def k0_dev37 (d0 : Dev nD) : Nat :=
  let c0_i32_1367 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1366 : BitVec 32 := 1#32
  let v1429 : BitVec 32 := Scalar.muli v182 c1_i32_1366
  let v1430 : BitVec 32 := Scalar.addi c0_i32_1367 v1429
  v1430.toNat
def k0_dev38 (d0 : Dev nD) : Nat :=
  let c0_i32_1596 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1595 : BitVec 32 := 1#32
  let v1745 : BitVec 32 := Scalar.muli v139 c1_i32_1595
  let v1746 : BitVec 32 := Scalar.addi c0_i32_1596 v1745
  v1746.toNat
def k0_dev39 (d0 : Dev nD) : Nat :=
  let c0_i32_1624 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1623 : BitVec 32 := 1#32
  let v1763 : BitVec 32 := Scalar.muli v139 c1_i32_1623
  let v1764 : BitVec 32 := Scalar.addi c0_i32_1624 v1763
  v1764.toNat
def k0_dev40 (d0 : Dev nD) : Nat :=
  let c0_i32_1652 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1651 : BitVec 32 := 1#32
  let v1781 : BitVec 32 := Scalar.muli v139 c1_i32_1651
  let v1782 : BitVec 32 := Scalar.addi c0_i32_1652 v1781
  v1782.toNat
def k0_dev41 (d0 : Dev nD) : Nat :=
  let c0_i32_1680 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_1679 : BitVec 32 := 1#32
  let v1799 : BitVec 32 := Scalar.muli v139 c1_i32_1679
  let v1800 : BitVec 32 := Scalar.addi c0_i32_1680 v1799
  v1800.toNat
def k0_dev42 (d0 : Dev nD) : Nat :=
  let c0_i32_1708 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1707 : BitVec 32 := 1#32
  let v1817 : BitVec 32 := Scalar.muli v182 c1_i32_1707
  let v1818 : BitVec 32 := Scalar.addi c0_i32_1708 v1817
  v1818.toNat
def k0_dev43 (d0 : Dev nD) : Nat :=
  let c0_i32_1736 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1735 : BitVec 32 := 1#32
  let v1835 : BitVec 32 := Scalar.muli v182 c1_i32_1735
  let v1836 : BitVec 32 := Scalar.addi c0_i32_1736 v1835
  v1836.toNat
def k0_dev44 (d0 : Dev nD) : Nat :=
  let c0_i32_1764 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1763 : BitVec 32 := 1#32
  let v1853 : BitVec 32 := Scalar.muli v182 c1_i32_1763
  let v1854 : BitVec 32 := Scalar.addi c0_i32_1764 v1853
  v1854.toNat
def k0_dev45 (d0 : Dev nD) : Nat :=
  let c0_i32_1792 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_1791 : BitVec 32 := 1#32
  let v1871 : BitVec 32 := Scalar.muli v182 c1_i32_1791
  let v1872 : BitVec 32 := Scalar.addi c0_i32_1792 v1871
  v1872.toNat
def k0_dev46 (d0 : Dev nD) : Nat :=
  let c0_i32_2021 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2020 : BitVec 32 := 1#32
  let v2187 : BitVec 32 := Scalar.muli v139 c1_i32_2020
  let v2188 : BitVec 32 := Scalar.addi c0_i32_2021 v2187
  v2188.toNat
def k0_dev47 (d0 : Dev nD) : Nat :=
  let c0_i32_2049 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2048 : BitVec 32 := 1#32
  let v2205 : BitVec 32 := Scalar.muli v139 c1_i32_2048
  let v2206 : BitVec 32 := Scalar.addi c0_i32_2049 v2205
  v2206.toNat
def k0_dev48 (d0 : Dev nD) : Nat :=
  let c0_i32_2077 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2076 : BitVec 32 := 1#32
  let v2223 : BitVec 32 := Scalar.muli v139 c1_i32_2076
  let v2224 : BitVec 32 := Scalar.addi c0_i32_2077 v2223
  v2224.toNat
def k0_dev49 (d0 : Dev nD) : Nat :=
  let c0_i32_2105 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2104 : BitVec 32 := 1#32
  let v2241 : BitVec 32 := Scalar.muli v139 c1_i32_2104
  let v2242 : BitVec 32 := Scalar.addi c0_i32_2105 v2241
  v2242.toNat
def k0_dev50 (d0 : Dev nD) : Nat :=
  let c0_i32_2133 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2132 : BitVec 32 := 1#32
  let v2259 : BitVec 32 := Scalar.muli v182 c1_i32_2132
  let v2260 : BitVec 32 := Scalar.addi c0_i32_2133 v2259
  v2260.toNat
def k0_dev51 (d0 : Dev nD) : Nat :=
  let c0_i32_2161 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2160 : BitVec 32 := 1#32
  let v2277 : BitVec 32 := Scalar.muli v182 c1_i32_2160
  let v2278 : BitVec 32 := Scalar.addi c0_i32_2161 v2277
  v2278.toNat
def k0_dev52 (d0 : Dev nD) : Nat :=
  let c0_i32_2189 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2188 : BitVec 32 := 1#32
  let v2295 : BitVec 32 := Scalar.muli v182 c1_i32_2188
  let v2296 : BitVec 32 := Scalar.addi c0_i32_2189 v2295
  v2296.toNat
def k0_dev53 (d0 : Dev nD) : Nat :=
  let c0_i32_2217 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2216 : BitVec 32 := 1#32
  let v2313 : BitVec 32 := Scalar.muli v182 c1_i32_2216
  let v2314 : BitVec 32 := Scalar.addi c0_i32_2217 v2313
  v2314.toNat
def k0_dev54 (d0 : Dev nD) : Nat :=
  let c0_i32_2446 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2445 : BitVec 32 := 1#32
  let v2629 : BitVec 32 := Scalar.muli v139 c1_i32_2445
  let v2630 : BitVec 32 := Scalar.addi c0_i32_2446 v2629
  v2630.toNat
def k0_dev55 (d0 : Dev nD) : Nat :=
  let c0_i32_2474 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2473 : BitVec 32 := 1#32
  let v2647 : BitVec 32 := Scalar.muli v139 c1_i32_2473
  let v2648 : BitVec 32 := Scalar.addi c0_i32_2474 v2647
  v2648.toNat
def k0_dev56 (d0 : Dev nD) : Nat :=
  let c0_i32_2502 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2501 : BitVec 32 := 1#32
  let v2665 : BitVec 32 := Scalar.muli v139 c1_i32_2501
  let v2666 : BitVec 32 := Scalar.addi c0_i32_2502 v2665
  v2666.toNat
def k0_dev57 (d0 : Dev nD) : Nat :=
  let c0_i32_2530 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2529 : BitVec 32 := 1#32
  let v2683 : BitVec 32 := Scalar.muli v139 c1_i32_2529
  let v2684 : BitVec 32 := Scalar.addi c0_i32_2530 v2683
  v2684.toNat
def k0_dev58 (d0 : Dev nD) : Nat :=
  let c0_i32_2558 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2557 : BitVec 32 := 1#32
  let v2701 : BitVec 32 := Scalar.muli v182 c1_i32_2557
  let v2702 : BitVec 32 := Scalar.addi c0_i32_2558 v2701
  v2702.toNat
def k0_dev59 (d0 : Dev nD) : Nat :=
  let c0_i32_2586 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2585 : BitVec 32 := 1#32
  let v2719 : BitVec 32 := Scalar.muli v182 c1_i32_2585
  let v2720 : BitVec 32 := Scalar.addi c0_i32_2586 v2719
  v2720.toNat
def k0_dev60 (d0 : Dev nD) : Nat :=
  let c0_i32_2614 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2613 : BitVec 32 := 1#32
  let v2737 : BitVec 32 := Scalar.muli v182 c1_i32_2613
  let v2738 : BitVec 32 := Scalar.addi c0_i32_2614 v2737
  v2738.toNat
def k0_dev61 (d0 : Dev nD) : Nat :=
  let c0_i32_2642 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_74 : BitVec 32 := 1#32
  let v140 : BitVec 32 := Scalar.subi v76 c1_i32_74
  let c32_i32_75 : BitVec 32 := 32#32
  let v141 : BitVec 32 := Scalar.addi v140 c32_i32_75
  let c16_i32_76 : BitVec 32 := 16#32
  let v142 : BitVec 32 := Scalar.remsi v141 c16_i32_76
  let c3_i32_88 : BitVec 32 := 3#32
  let v153 : BitVec 1 := Scalar.cmpi .sle v142 c3_i32_88
  let c6_i32_89 : BitVec 32 := 6#32
  let v154 : BitVec 1 := Scalar.cmpi .sle v142 c6_i32_89
  let c7_i32_90 : BitVec 32 := 7#32
  let v155 : BitVec 32 := Scalar.subi c7_i32_90 v142
  let c9_i32_91 : BitVec 32 := 9#32
  let v156 : BitVec 1 := Scalar.cmpi .sle v142 c9_i32_91
  let c6_i32_92 : BitVec 32 := 6#32
  let v157 : BitVec 32 := Scalar.subi v142 c6_i32_92
  let c13_i32_93 : BitVec 32 := 13#32
  let v158 : BitVec 1 := Scalar.cmpi .sle v142 c13_i32_93
  let c13_i32_94 : BitVec 32 := 13#32
  let v159 : BitVec 32 := Scalar.subi c13_i32_94 v142
  let c0_i32_95 : BitVec 32 := 0#32
  let v160 : BitVec 32 := Scalar.select v158 v159 c0_i32_95
  let v161 : BitVec 32 := Scalar.select v156 v157 v160
  let v162 : BitVec 32 := Scalar.select v154 v155 v161
  let v163 : BitVec 32 := Scalar.select v153 v142 v162
  let v175 : BitVec 32 := Scalar.muli c8_i32_103 v163
  let c3_i32_77 : BitVec 32 := 3#32
  let v143 : BitVec 1 := Scalar.cmpi .sle v142 c3_i32_77
  let c0_i32_87 : BitVec 32 := 0#32
  let c6_i32_78 : BitVec 32 := 6#32
  let v144 : BitVec 1 := Scalar.cmpi .sle v142 c6_i32_78
  let c1_i32_86 : BitVec 32 := 1#32
  let c9_i32_79 : BitVec 32 := 9#32
  let v145 : BitVec 1 := Scalar.cmpi .sle v142 c9_i32_79
  let c2_i32_85 : BitVec 32 := 2#32
  let c13_i32_80 : BitVec 32 := 13#32
  let v146 : BitVec 1 := Scalar.cmpi .sle v142 c13_i32_80
  let c3_i32_84 : BitVec 32 := 3#32
  let c14_i32_81 : BitVec 32 := 14#32
  let v147 : BitVec 1 := Scalar.cmpi .eq v142 c14_i32_81
  let c2_i32_82 : BitVec 32 := 2#32
  let c1_i32_83 : BitVec 32 := 1#32
  let v148 : BitVec 32 := Scalar.select v147 c2_i32_82 c1_i32_83
  let v149 : BitVec 32 := Scalar.select v146 c3_i32_84 v148
  let v150 : BitVec 32 := Scalar.select v145 c2_i32_85 v149
  let v151 : BitVec 32 := Scalar.select v144 c1_i32_86 v150
  let v152 : BitVec 32 := Scalar.select v143 c0_i32_87 v151
  let c2_i32_96 : BitVec 32 := 2#32
  let c0_i32_97 : BitVec 32 := 0#32
  let v164 : BitVec 1 := Scalar.cmpi .eq c2_i32_96 c0_i32_97
  let c1_i32_98 : BitVec 32 := 1#32
  let v165 : BitVec 32 := Scalar.select v164 c1_i32_98 c2_i32_96
  let v166 : BitVec 32 := Scalar.remsi v152 v165
  let c0_i32_100 : BitVec 32 := 0#32
  let v168 : BitVec 1 := Scalar.cmpi .slt v166 c0_i32_100
  let c0_i32_101 : BitVec 32 := 0#32
  let v169 : BitVec 1 := Scalar.cmpi .slt v165 c0_i32_101
  let v170 : BitVec 1 := Scalar.xori v168 v169
  let c0_i32_99 : BitVec 32 := 0#32
  let v167 : BitVec 1 := Scalar.cmpi .ne v166 c0_i32_99
  let v171 : BitVec 1 := Scalar.andi v170 v167
  let v172 : BitVec 32 := Scalar.addi v166 v165
  let v173 : BitVec 32 := Scalar.select v171 v172 v166
  let c0_i32_102 : BitVec 32 := 0#32
  let v174 : BitVec 1 := Scalar.cmpi .eq v173 c0_i32_102
  let c2_i32_104 : BitVec 32 := 2#32
  let v176 : BitVec 32 := Scalar.muli c2_i32_104 v152
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v177 : BitVec 32 := Scalar.addi v176 v63
  let c2_i32_105 : BitVec 32 := 2#32
  let v178 : BitVec 32 := Scalar.muli c2_i32_105 v152
  let c1_i32_106 : BitVec 32 := 1#32
  let v179 : BitVec 32 := Scalar.addi v178 c1_i32_106
  let v180 : BitVec 32 := Scalar.subi v179 v63
  let v181 : BitVec 32 := Scalar.select v174 v177 v180
  let v182 : BitVec 32 := Scalar.addi v175 v181
  let c1_i32_2641 : BitVec 32 := 1#32
  let v2755 : BitVec 32 := Scalar.muli v182 c1_i32_2641
  let v2756 : BitVec 32 := Scalar.addi c0_i32_2642 v2755
  v2756.toNat
def k0_dev62 (d0 : Dev nD) : Nat :=
  let c0_i32_2871 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2870 : BitVec 32 := 1#32
  let v3071 : BitVec 32 := Scalar.muli v139 c1_i32_2870
  let v3072 : BitVec 32 := Scalar.addi c0_i32_2871 v3071
  v3072.toNat
def k0_dev63 (d0 : Dev nD) : Nat :=
  let c0_i32_2899 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2898 : BitVec 32 := 1#32
  let v3089 : BitVec 32 := Scalar.muli v139 c1_i32_2898
  let v3090 : BitVec 32 := Scalar.addi c0_i32_2899 v3089
  v3090.toNat
def k0_dev64 (d0 : Dev nD) : Nat :=
  let c0_i32_2927 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2926 : BitVec 32 := 1#32
  let v3107 : BitVec 32 := Scalar.muli v139 c1_i32_2926
  let v3108 : BitVec 32 := Scalar.addi c0_i32_2927 v3107
  v3108.toNat
def k0_dev65 (d0 : Dev nD) : Nat :=
  let c0_i32_2955 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_27 : BitVec 32 := 0#32
  let v64 : BitVec 1 := Scalar.cmpi .eq v46 c0_i32_27
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_28 : BitVec 32 := 1#32
  let v65 : BitVec 1 := Scalar.cmpi .eq v46 c1_i32_28
  let c0_i32_29 : BitVec 32 := 0#32
  let v66 : BitVec 1 := Scalar.cmpi .eq v19 c0_i32_29
  let c15_i32 : BitVec 32 := 15#32
  let c7_i32 : BitVec 32 := 7#32
  let v67 : BitVec 32 := Scalar.subi c7_i32 v19
  let v68 : BitVec 32 := Scalar.select v66 c15_i32 v67
  let c2_i32_30 : BitVec 32 := 2#32
  let v69 : BitVec 1 := Scalar.cmpi .eq v46 c2_i32_30
  let c0_i32_31 : BitVec 32 := 0#32
  let v70 : BitVec 1 := Scalar.cmpi .eq v19 c0_i32_31
  let c14_i32 : BitVec 32 := 14#32
  let c6_i32 : BitVec 32 := 6#32
  let v71 : BitVec 32 := Scalar.addi c6_i32 v19
  let v72 : BitVec 32 := Scalar.select v70 c14_i32 v71
  let c13_i32 : BitVec 32 := 13#32
  let v73 : BitVec 32 := Scalar.subi c13_i32 v19
  let v74 : BitVec 32 := Scalar.select v69 v72 v73
  let v75 : BitVec 32 := Scalar.select v65 v68 v74
  let v76 : BitVec 32 := Scalar.select v64 v19 v75
  let c1_i32_44 : BitVec 32 := 1#32
  let v97 : BitVec 32 := Scalar.addi v76 c1_i32_44
  let c32_i32_45 : BitVec 32 := 32#32
  let v98 : BitVec 32 := Scalar.addi v97 c32_i32_45
  let c16_i32 : BitVec 32 := 16#32
  let v99 : BitVec 32 := Scalar.remsi v98 c16_i32
  let c3_i32_55 : BitVec 32 := 3#32
  let v110 : BitVec 1 := Scalar.cmpi .sle v99 c3_i32_55
  let c6_i32_56 : BitVec 32 := 6#32
  let v111 : BitVec 1 := Scalar.cmpi .sle v99 c6_i32_56
  let c7_i32_57 : BitVec 32 := 7#32
  let v112 : BitVec 32 := Scalar.subi c7_i32_57 v99
  let c9_i32_58 : BitVec 32 := 9#32
  let v113 : BitVec 1 := Scalar.cmpi .sle v99 c9_i32_58
  let c6_i32_59 : BitVec 32 := 6#32
  let v114 : BitVec 32 := Scalar.subi v99 c6_i32_59
  let c13_i32_60 : BitVec 32 := 13#32
  let v115 : BitVec 1 := Scalar.cmpi .sle v99 c13_i32_60
  let c13_i32_61 : BitVec 32 := 13#32
  let v116 : BitVec 32 := Scalar.subi c13_i32_61 v99
  let c0_i32_62 : BitVec 32 := 0#32
  let v117 : BitVec 32 := Scalar.select v115 v116 c0_i32_62
  let v118 : BitVec 32 := Scalar.select v113 v114 v117
  let v119 : BitVec 32 := Scalar.select v111 v112 v118
  let v120 : BitVec 32 := Scalar.select v110 v99 v119
  let v132 : BitVec 32 := Scalar.muli c8_i32_70 v120
  let c3_i32 : BitVec 32 := 3#32
  let v100 : BitVec 1 := Scalar.cmpi .sle v99 c3_i32
  let c0_i32_54 : BitVec 32 := 0#32
  let c6_i32_46 : BitVec 32 := 6#32
  let v101 : BitVec 1 := Scalar.cmpi .sle v99 c6_i32_46
  let c1_i32_53 : BitVec 32 := 1#32
  let c9_i32 : BitVec 32 := 9#32
  let v102 : BitVec 1 := Scalar.cmpi .sle v99 c9_i32
  let c2_i32_52 : BitVec 32 := 2#32
  let c13_i32_47 : BitVec 32 := 13#32
  let v103 : BitVec 1 := Scalar.cmpi .sle v99 c13_i32_47
  let c3_i32_51 : BitVec 32 := 3#32
  let c14_i32_48 : BitVec 32 := 14#32
  let v104 : BitVec 1 := Scalar.cmpi .eq v99 c14_i32_48
  let c2_i32_49 : BitVec 32 := 2#32
  let c1_i32_50 : BitVec 32 := 1#32
  let v105 : BitVec 32 := Scalar.select v104 c2_i32_49 c1_i32_50
  let v106 : BitVec 32 := Scalar.select v103 c3_i32_51 v105
  let v107 : BitVec 32 := Scalar.select v102 c2_i32_52 v106
  let v108 : BitVec 32 := Scalar.select v101 c1_i32_53 v107
  let v109 : BitVec 32 := Scalar.select v100 c0_i32_54 v108
  let c2_i32_63 : BitVec 32 := 2#32
  let c0_i32_64 : BitVec 32 := 0#32
  let v121 : BitVec 1 := Scalar.cmpi .eq c2_i32_63 c0_i32_64
  let c1_i32_65 : BitVec 32 := 1#32
  let v122 : BitVec 32 := Scalar.select v121 c1_i32_65 c2_i32_63
  let v123 : BitVec 32 := Scalar.remsi v109 v122
  let c0_i32_67 : BitVec 32 := 0#32
  let v125 : BitVec 1 := Scalar.cmpi .slt v123 c0_i32_67
  let c0_i32_68 : BitVec 32 := 0#32
  let v126 : BitVec 1 := Scalar.cmpi .slt v122 c0_i32_68
  let v127 : BitVec 1 := Scalar.xori v125 v126
  let c0_i32_66 : BitVec 32 := 0#32
  let v124 : BitVec 1 := Scalar.cmpi .ne v123 c0_i32_66
  let v128 : BitVec 1 := Scalar.andi v127 v124
  let v129 : BitVec 32 := Scalar.addi v123 v122
  let v130 : BitVec 32 := Scalar.select v128 v129 v123
  let c0_i32_69 : BitVec 32 := 0#32
  let v131 : BitVec 1 := Scalar.cmpi .eq v130 c0_i32_69
  let c2_i32_71 : BitVec 32 := 2#32
  let v133 : BitVec 32 := Scalar.muli c2_i32_71 v109
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let v58 : BitVec 32 := Scalar.muli c2_i32_24 v46
  let v59 : BitVec 32 := Scalar.subi v29 v58
  let c2_i32_25 : BitVec 32 := 2#32
  let v60 : BitVec 32 := Scalar.muli c2_i32_25 v46
  let c1_i32_26 : BitVec 32 := 1#32
  let v61 : BitVec 32 := Scalar.addi v60 c1_i32_26
  let v62 : BitVec 32 := Scalar.subi v61 v29
  let v63 : BitVec 32 := Scalar.select v57 v59 v62
  let v134 : BitVec 32 := Scalar.addi v133 v63
  let c2_i32_72 : BitVec 32 := 2#32
  let v135 : BitVec 32 := Scalar.muli c2_i32_72 v109
  let c1_i32_73 : BitVec 32 := 1#32
  let v136 : BitVec 32 := Scalar.addi v135 c1_i32_73
  let v137 : BitVec 32 := Scalar.subi v136 v63
  let v138 : BitVec 32 := Scalar.select v131 v134 v137
  let v139 : BitVec 32 := Scalar.addi v132 v138
  let c1_i32_2954 : BitVec 32 := 1#32
  let v3125 : BitVec 32 := Scalar.muli v139 c1_i32_2954
  let v3126 : BitVec 32 := Scalar.addi c0_i32_2955 v3125
  v3126.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x2 : Shape := ⟨2, ![16384, 2]⟩
abbrev S64x256x512 : Shape := ⟨3, ![64, 256, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1 : Shape := ⟨1, ![1]⟩
abbrev S1x1x1 : Shape := ⟨3, ![1, 1, 1]⟩
abbrev S16384x256x512 : Shape := ⟨3, ![16384, 256, 512]⟩
abbrev S16384x512 : Shape := ⟨2, ![16384, 512]⟩

abbrev nBuf : Space → Nat
  | .hbm => 75
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x64, .bf16⟩
  | .hbm, ⟨2, _⟩ => ⟨S16384x2, .i32⟩
  | .hbm, ⟨3, _⟩ => ⟨S64x256x512, .bf16⟩
  | .hbm, ⟨4, _⟩ => ⟨S16384x256, .f32⟩
  | .hbm, ⟨5, _⟩ => ⟨S256x64, .f32⟩
  | .hbm, ⟨6, _⟩ => ⟨S64x256x512, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S_, .i32⟩
  | .hbm, ⟨20, _⟩ => ⟨S16384x2, .i32⟩
  | .hbm, ⟨21, _⟩ => ⟨S16384x2, .i1⟩
  | .hbm, ⟨22, _⟩ => ⟨S_, .i32⟩
  | .hbm, ⟨23, _⟩ => ⟨S16384x2, .i32⟩
  | .hbm, ⟨24, _⟩ => ⟨S16384x2, .i32⟩
  | .hbm, ⟨25, _⟩ => ⟨S16384x2, .i32⟩
  | .hbm, ⟨26, _⟩ => ⟨S16384x2x1, .i32⟩
  | .hbm, ⟨27, _⟩ => ⟨S1, .i32⟩
  | .hbm, ⟨28, _⟩ => ⟨S_, .i32⟩
  | .hbm, ⟨29, _⟩ => ⟨S16384x2x1, .i32⟩
  | .hbm, ⟨30, _⟩ => ⟨S16384x2x1, .i1⟩
  | .hbm, ⟨31, _⟩ => ⟨S1x1x1, .i32⟩
  | .hbm, ⟨32, _⟩ => ⟨S16384x2x1, .i32⟩
  | .hbm, ⟨33, _⟩ => ⟨S16384x2x1, .i1⟩
  | .hbm, ⟨34, _⟩ => ⟨S16384x2x1, .i1⟩
  | .hbm, ⟨35, _⟩ => ⟨S_, .i1⟩
  | .hbm, ⟨36, _⟩ => ⟨S16384x2, .i1⟩
  | .hbm, ⟨37, _⟩ => ⟨S16384x2, .f32⟩
  | .hbm, ⟨38, _⟩ => ⟨S_, .f32⟩
  | .hbm, ⟨39, _⟩ => ⟨S16384x2, .f32⟩
  | .hbm, ⟨40, _⟩ => ⟨S16384x2, .f32⟩
  | .hbm, ⟨41, _⟩ => ⟨S16384x1, .i32⟩
  | .hbm, ⟨42, _⟩ => ⟨S16384, .i32⟩
  | .hbm, ⟨43, _⟩ => ⟨S16384x1, .i32⟩
  | .hbm, ⟨44, _⟩ => ⟨S16384, .i32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S16384x256x512, .f32⟩
  | .hbm, ⟨57, _⟩ => ⟨S16384x512, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x256x512, .f32⟩
  | .hbm, ⟨67, _⟩ => ⟨S16384x512, .f32⟩
  | .hbm, ⟨68, _⟩ => ⟨S16384x1, .f32⟩
  | .hbm, ⟨69, _⟩ => ⟨S16384x512, .f32⟩
  | .hbm, ⟨70, _⟩ => ⟨S16384x512, .f32⟩
  | .hbm, ⟨71, _⟩ => ⟨S16384x1, .f32⟩
  | .hbm, ⟨72, _⟩ => ⟨S16384x512, .f32⟩
  | .hbm, ⟨73, _⟩ => ⟨S16384x512, .f32⟩
  | .hbm, ⟨74, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Proof.KernelIdeal.Plain.lean ====
module

public import proofs.«01_k».proof.Proof.Gen.KernelIdeal.Skeleton
public import Idealize.ShloMosaic.Lib.Tactic

/-! # The kernel's body written over its sixty-two transfers

Every copy the kernel starts lands in a *slot*: one of the two slices received from the partner in
the other lane, or the slice at a step and position of the clockwise or counter-clockwise relay. The
body below says the same operations as the printed one, with the repeated pieces named once. -/

@[expose] public section

set_option synthInstance.maxSize 4096

noncomputable section

namespace Cert.KernelIdeal.Moe

open Idealize.ShloMosaic Idealize.ShloMosaic.TcCoe Idealize.SL.Sem
open Cert.KernelIdeal.Gen

/-! ## The slots -/

/-- Where a copy lands: a slice from the partner, or a slice of the relay's step `h`. -/
inductive Slot
  | xp (c : Fin 2)
  | cw (h : Fin 8) (c : Fin 4)
  | ccw (h : Fin 7) (c : Fin 4)
deriving DecidableEq

/-- The slots as a sum of index ranges. -/
def slotEquiv : (Fin 2 ⊕ (Fin 8 × Fin 4) ⊕ (Fin 7 × Fin 4)) ≃ Slot where
  toFun | .inl c => .xp c | .inr (.inl p) => .cw p.1 p.2 | .inr (.inr p) => .ccw p.1 p.2
  invFun | .xp c => .inl c | .cw h c => .inr (.inl (h, c)) | .ccw h c => .inr (.inr (h, c))
  left_inv := by rintro (c | ⟨h, c⟩ | ⟨h, c⟩) <;> rfl
  right_inv := by rintro (c | ⟨h, c⟩ | ⟨h, c⟩) <;> rfl

instance : Fintype Slot := Fintype.ofEquiv _ slotEquiv

theorem inbCw : ∀ (h : Fin 8) (c : Fin 4) (a : Fin 4), (![h.val, c.val, 0, 0] : Fin 4 → Nat) a + S1x1x256x512.size a ≤ S8x4x256x512.size a := by decide
theorem inbCcw : ∀ (h : Fin 7) (c : Fin 4) (a : Fin 4), (![h.val, c.val, 0, 0] : Fin 4 → Nat) a + S1x1x256x512.size a ≤ S7x4x256x512.size a := by decide
theorem inbPair : ∀ (c : Fin 2) (a : Fin 3), (![c.val, 0, 0] : Fin 3 → Nat) a + S1x256x512.size a ≤ S2x256x512.size a := by decide
theorem inbSCw : ∀ (h : Fin 8) (c : Fin 4) (a : Fin 2), (![h.val, c.val] : Fin 2 → Nat) a + S1x1.size a ≤ S8x4.size a := by decide
theorem inbSCcw : ∀ (h : Fin 7) (c : Fin 4) (a : Fin 2), (![h.val, c.val] : Fin 2 → Nat) a + S1x1.size a ≤ S7x4.size a := by decide
theorem inbSPair : ∀ (c : Fin 2) (a : Fin 1), (![c.val] : Fin 1 → Nat) a + S1.size a ≤ S2.size a := by decide

/-- The rectangle of slice `(h, c)` in the clockwise buffer. -/
abbrev rCw (h : Fin 8) (c : Fin 4) : Rect S8x4x256x512 := Rect.unit (s := S8x4x256x512) ![h.val, c.val, 0, 0] S1x1x256x512.size (inbCw h c)
/-- The rectangle of slice `(h, c)` in the counter-clockwise buffer. -/
abbrev rCcw (h : Fin 7) (c : Fin 4) : Rect S7x4x256x512 := Rect.unit (s := S7x4x256x512) ![h.val, c.val, 0, 0] S1x1x256x512.size (inbCcw h c)
/-- The rectangle of slice `c` in a buffer of two. -/
abbrev rPair (c : Fin 2) : Rect S2x256x512 := Rect.unit (s := S2x256x512) ![c.val, 0, 0] S1x256x512.size (inbPair c)

theorem wwCw : ∀ (h : Fin 8) (c : Fin 4), (rCw h c).WholeWords (EltTy.packing .bf16) := by decide
theorem wwCcw : ∀ (h : Fin 7) (c : Fin 4), (rCcw h c).WholeWords (EltTy.packing .bf16) := by decide
theorem wwPair : ∀ (c : Fin 2), (rPair c).WholeWords (EltTy.packing .bf16) := by decide

/-- Slice `c` of the device's own two slices. -/
abbrev pairM (c : Fin 2) : Memref sig .tc .vmem S256x512 .bf16 :=
  ((Memref.whole cc0_scratch0).slice (rPair c) (fun _ => rfl)).squeeze S256x512 squeezes_S1x256x512_S256x512

/-- The memory of a slot. -/
def dstM : Slot → Memref sig .tc .vmem S256x512 .bf16
  | .xp c => ((Memref.whole cc0_scratch1).slice (rPair c) (fun _ => rfl)).squeeze S256x512 squeezes_S1x256x512_S256x512
  | .cw h c => ((Memref.whole cc0_scratch2).slice (rCw h c) (fun _ => rfl)).squeeze S256x512 squeezes_S1x1x256x512_S256x512
  | .ccw h c => ((Memref.whole cc0_scratch3).slice (rCcw h c) (fun _ => rfl)).squeeze S256x512 squeezes_S1x1x256x512_S256x512

/-- The slot whose memory a slot's copy is sent from; the first copies of the device's own slices have none. -/
def par : Slot → Fin 2 ⊕ Slot
  | .xp c => .inl c
  | .cw h c =>
    if h.val = 0 then (if h2 : c.val < 2 then .inl ⟨c.val, h2⟩ else .inr (.xp ⟨c.val - 2, by omega⟩))
    else .inr (.cw ⟨h.val - 1, by omega⟩ c)
  | .ccw h c =>
    if h.val = 0 then (if h2 : c.val < 2 then .inl ⟨c.val, h2⟩ else .inr (.xp ⟨c.val - 2, by omega⟩))
    else .inr (.ccw ⟨h.val - 1, by omega⟩ c)

/-- The memory of a source: one of the device's own slices or a slot. -/
def memM : Fin 2 ⊕ Slot → Memref sig .tc .vmem S256x512 .bf16
  | .inl c => pairM c
  | .inr s => dstM s

/-- The memory a slot's copy is sent from. -/
abbrev srcM (s : Slot) : Memref sig .tc .vmem S256x512 .bf16 := memM (par s)

theorem weMem : ∀ p : Fin 2 ⊕ Slot, (memM p).view.WordExact
  | .inl c => ((Memref.isWhole_whole cc0_scratch0).wordExact_slice rfl _ (wwPair c)).reshape _ _
  | .inr (.xp c) => ((Memref.isWhole_whole cc0_scratch1).wordExact_slice rfl _ (wwPair c)).reshape _ _
  | .inr (.cw h c) => ((Memref.isWhole_whole cc0_scratch2).wordExact_slice rfl _ (wwCw h c)).reshape _ _
  | .inr (.ccw h c) => ((Memref.isWhole_whole cc0_scratch3).wordExact_slice rfl _ (wwCcw h c)).reshape _ _

/-- The semaphore on which a slot's sender learns that its source was read. -/
def sendS : Slot → DmaSem sig
  | .xp c => ((cc0_scratch6.slice (Rect.unit (s := S2) ![c.val] S1.size (inbSPair c))).squeeze S_ squeezes_S1_S_).sem
  | .cw h c => ((cc0_scratch8.slice (Rect.unit (s := S8x4) ![h.val, c.val] S1x1.size (inbSCw h c))).squeeze S_ squeezes_S1x1_S_).sem
  | .ccw h c => ((cc0_scratch10.slice (Rect.unit (s := S7x4) ![h.val, c.val] S1x1.size (inbSCcw h c))).squeeze S_ squeezes_S1x1_S_).sem

/-- The semaphore on which a slot's owner learns that its copy landed. -/
def recvS : Slot → DmaSem sig
  | .xp c => ((cc0_scratch7.slice (Rect.unit (s := S2) ![c.val] S1.size (inbSPair c))).squeeze S_ squeezes_S1_S_).sem
  | .cw h c => ((cc0_scratch9.slice (Rect.unit (s := S8x4) ![h.val, c.val] S1x1.size (inbSCw h c))).squeeze S_ squeezes_S1x1_S_).sem
  | .ccw h c => ((cc0_scratch11.slice (Rect.unit (s := S7x4) ![h.val, c.val] S1x1.size (inbSCcw h c))).squeeze S_ squeezes_S1x1_S_).sem

/-- The next device of the lane. -/
abbrev nxt (d : Dev nD) : Dev nD := ⟨k0_dev1 d, k0_dev1_lt d⟩
/-- The previous device of the lane. -/
abbrev prv (d : Dev nD) : Dev nD := ⟨k0_dev2 d, k0_dev2_lt d⟩
/-- The partner in the other lane. -/
abbrev prt (d : Dev nD) : Dev nD := ⟨k0_dev3 d, k0_dev3_lt d⟩

/-- The device a slot's copy goes to. -/
def tgt : Slot → Dev nD → Dev nD
  | .xp _ => prt
  | .cw _ _ => nxt
  | .ccw _ _ => prv

/-! ## The words the kernel computes -/

/-- Division rounded down. -/
def fdivW (a b : BitVec 32) : BitVec 32 :=
  Scalar.select (Scalar.andi
      (Scalar.cmpi .ne
        (Scalar.subi (Scalar.extui (Scalar.cmpi .sgt a 0#32)) (Scalar.extui (Scalar.cmpi .slt a 0#32)) : BitVec 32)
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The divisor a remainder is taken by. -/
def divW (b : BitVec 32) : BitVec 32 := Scalar.select (Scalar.cmpi .eq b 0#32) 1#32 b

/-- The remainder of division rounded down. -/
def fmodW (a b : BitVec 32) : BitVec 32 :=
  Scalar.select (Scalar.andi
      (Scalar.xori (Scalar.cmpi .slt (Scalar.remsi a (divW b)) 0#32) (Scalar.cmpi .slt (divW b) 0#32))
      (Scalar.cmpi .ne (Scalar.remsi a (divW b)) 0#32))
    (Scalar.addi (Scalar.remsi a (divW b)) (divW b)) (Scalar.remsi a (divW b))

/-- The number of the device at coordinates `(x, y, z)`. -/
def logW (x y z : BitVec 32) : BitVec 32 :=
  Scalar.addi (Scalar.muli 8#32 z)
    (Scalar.select (Scalar.cmpi .eq (fmodW y 2#32) 0#32) (Scalar.addi (Scalar.muli 2#32 y) x)
      (Scalar.subi (Scalar.addi (Scalar.muli 2#32 y) 1#32) x))

/-- The device's own number. -/
def myW (d : Dev nD) : BitVec 32 := Scalar.remsi (Scalar.divsi (Dev.word d) 1#32) 32#32
/-- The device's coordinate `z`. -/
def zW (d : Dev nD) : BitVec 32 := fdivW (myW d) 8#32
/-- The device's number inside its plane. -/
def rW (d : Dev nD) : BitVec 32 := fmodW (myW d) 8#32
/-- The device's coordinate `y`. -/
def yW (d : Dev nD) : BitVec 32 := fdivW (rW d) 2#32
/-- The device's lane. -/
def xW (d : Dev nD) : BitVec 32 :=
  Scalar.select (Scalar.cmpi .eq (fmodW (yW d) 2#32) 0#32) (Scalar.subi (rW d) (Scalar.muli 2#32 (yW d)))
    (Scalar.subi (Scalar.addi (Scalar.muli 2#32 (yW d)) 1#32) (rW d))
/-- The device's place on its lane's cycle. -/
def posW (d : Dev nD) : BitVec 32 :=
  Scalar.select (Scalar.cmpi .eq (yW d) 0#32) (zW d)
    (Scalar.select (Scalar.cmpi .eq (yW d) 1#32)
      (Scalar.select (Scalar.cmpi .eq (zW d) 0#32) 15#32 (Scalar.subi 7#32 (zW d)))
      (Scalar.select (Scalar.cmpi .eq (yW d) 2#32)
        (Scalar.select (Scalar.cmpi .eq (zW d) 0#32) 14#32 (Scalar.addi 6#32 (zW d)))
        (Scalar.subi 13#32 (zW d))))
/-- The other lane. -/
def ox (d : Dev nD) : BitVec 32 := Scalar.subi 1#32 (xW d)
/-- The partner's number. -/
def prtW (d : Dev nD) : BitVec 32 := logW (ox d) (yW d) (zW d)

/-- The place reduced to the cycle's length. -/
def redW (p : BitVec 32) : BitVec 32 := Scalar.remsi (Scalar.addi p 32#32) 16#32
/-- The coordinate `y` of a reduced place. -/
def yOf (q : BitVec 32) : BitVec 32 :=
  Scalar.select (Scalar.cmpi .sle q 3#32) 0#32 (Scalar.select (Scalar.cmpi .sle q 6#32) 1#32
    (Scalar.select (Scalar.cmpi .sle q 9#32) 2#32 (Scalar.select (Scalar.cmpi .sle q 13#32) 3#32
      (Scalar.select (Scalar.cmpi .eq q 14#32) 2#32 1#32))))
/-- The coordinate `z` of a reduced place. -/
def zOf (q : BitVec 32) : BitVec 32 :=
  Scalar.select (Scalar.cmpi .sle q 3#32) q (Scalar.select (Scalar.cmpi .sle q 6#32) (Scalar.subi 7#32 q)
    (Scalar.select (Scalar.cmpi .sle q 9#32) (Scalar.subi q 6#32)
      (Scalar.select (Scalar.cmpi .sle q 13#32) (Scalar.subi 13#32 q) 0#32)))
/-- The number of the device at a place of a lane. -/
def laneW (p x : BitVec 32) : BitVec 32 := logW x (yOf (redW p)) (zOf (redW p))

/-- The place whose slices the clockwise relay brings at step `h`. -/
def cwW (d : Dev nD) (h : Fin 8) : BitVec 32 := Scalar.subi (Scalar.subi (posW d) 1#32) (BitVec.ofNat 32 h.val)
/-- The place whose slices the counter-clockwise relay brings at step `h`. -/
def ccwW (d : Dev nD) (h : Fin 7) : BitVec 32 := Scalar.addi (Scalar.addi (posW d) 1#32) (BitVec.ofNat 32 h.val)

/-- The device whose slice a slot receives, as the kernel computes it. -/
def ownW (d : Dev nD) : Slot → BitVec 32
  | .xp _ => prtW d
  | .cw h c => laneW (cwW d h) (if c.val < 2 then xW d else ox d)
  | .ccw h c => laneW (ccwW d h) (if c.val < 2 then xW d else ox d)

/-- Which of its device's two slices a slot receives. -/
def sub2 : Slot → BitVec 32
  | .xp c => BitVec.ofNat 32 c.val
  | .cw _ c => BitVec.ofNat 32 (c.val % 2)
  | .ccw _ c => BitVec.ofNat 32 (c.val % 2)

section
variable {F : FTy → Type} [FloatOps F]

/-- One expert's contribution added to the accumulator. -/
def addTerm (x : FVec F S512x256 .bf16) (g : FVec F S512x64 .f32) (dev k : BitVec 32)
    (w : FVec F S256x512 .bf16) (acc : FVec F S512x512 .f32) : FVec F S512x512 .f32 :=
  addf acc (mulf
    (broadcastTo S512x512 (shapeCast S512x1 (multiReduction .add [1] S512
      (mulf g (sitofp .f32 (extui 32 (cmpi .eq (iota .tc S512x64 32 [1] iota_S512x64_d1_w32)
        (broadcast S512x64 (Scalar.addi (Scalar.muli dev 2#32) k))) natLt_1_32)))
      0x00000000#32 reduces_S512x64_S512 (.inl rfl) rfl) shapeCasts_S512_S512x1) broadcasts_S512x1_S512x512)
    (matmul dot_S512x256_S256x512_S512x512_1_0_0_1_n_n none x w (constant S512x512 .f32 0x00000000#32)))

/-- The programs of this device's body. -/
abbrev PR (F : FTy → Type) [FloatOps F] (α : Type) := Prog (TpuEff nD τ sig (Elt F) Λ₀ .tc) α

/-- Start the copy into a slot of the device it goes to. -/
def sendP (d : Dev nD) (s : Slot) : PR F PUnit :=
  Prog.lift (.enqueueDma (srcM s) (.remote (Dev.tc (tgt s d)) (dstM s) (.dma (sendS s))) (.dma (recvS s))
    (weMem _) (weMem (.inr s)) ⟨⟨rfl, Or.inl rfl⟩, trivial⟩)
/-- Wait until a slot's copy has landed here. -/
def recvP (s : Slot) : PR F PUnit :=
  Prog.lift (.waitDma2 (recvS s) (srcM s) (dstM s) (weMem _) (weMem (.inr s)))
/-- Wait until the source of a slot's copy has been read. -/
def swaitP (s : Slot) : PR F PUnit :=
  Prog.lift (.waitDma2 (sendS s) (dstM s) (srcM s) (weMem (.inr s)) (weMem _))

/-- Read one of the device's own slices. -/
def ldPair (c : Fin 2) : PR F (FVec F S256x512 .bf16) := do
  let v : Vec F S1x256x512 .bf16 ← Prog.lift (.load (Memref.whole cc0_scratch0) (rPair c).toLoadRect (View.loadsAt_vmem h_S1x256x512))
  pure (shapeCast S256x512 v shapeCasts_S1x256x512_S256x512)

/-- Read a slot. -/
def ldSlot : Slot → PR F (FVec F S256x512 .bf16)
  | .xp c => do
    let v : Vec F S1x256x512 .bf16 ← Prog.lift (.load (Memref.whole cc0_scratch1) (rPair c).toLoadRect (View.loadsAt_vmem h_S1x256x512))
    pure (shapeCast S256x512 v shapeCasts_S1x256x512_S256x512)
  | .cw h c => do
    let v : Vec F S1x1x256x512 .bf16 ← Prog.lift (.load (Memref.whole cc0_scratch2) (rCw h c).toLoadRect (View.loadsAt_vmem h_S1x1x256x512))
    pure (shapeCast S256x512 v shapeCasts_S1x1x256x512_S256x512)
  | .ccw h c => do
    let v : Vec F S1x1x256x512 .bf16 ← Prog.lift (.load (Memref.whole cc0_scratch3) (rCcw h c).toLoadRect (View.loadsAt_vmem h_S1x1x256x512))
    pure (shapeCast S256x512 v shapeCasts_S1x1x256x512_S256x512)

/-- What the relay does to one slot or the sums it feeds. -/
inductive Ev
  | send (s : Slot)
  | recv (s : Slot)
  | use (s : Slot)

/-- One event, carrying the accumulator. -/
def evP (d : Dev nD) (x : FVec F S512x256 .bf16) (g : FVec F S512x64 .f32) (e : Ev) (acc : FVec F S512x512 .f32) :
    PR F (FVec F S512x512 .f32) :=
  match e with
  | .send s => do sendP d s; pure acc
  | .recv s => do recvP s; pure acc
  | .use s => do
    let w ← ldSlot s
    pure (addTerm x g (ownW d s) (sub2 s) w acc)

/-- A list of events in order. -/
def evsP (d : Dev nD) (x : FVec F S512x256 .bf16) (g : FVec F S512x64 .f32) : List Ev → FVec F S512x512 .f32 →
    PR F (FVec F S512x512 .f32)
  | [], acc => pure acc
  | e :: es, acc => do
    let a ← evP d x g e acc
    evsP d x g es a

/-- A list of copies started in order. -/
def sendsP (d : Dev nD) : List Slot → PR F PUnit
  | [] => pure ⟨⟩
  | s :: ss => do sendP d s; sendsP d ss

/-- A list of source waits in order. -/
def swaitsP : List Slot → PR F PUnit
  | [] => pure ⟨⟩
  | s :: ss => do swaitP s; swaitsP ss

end

/-- The four positions of a step. -/
abbrev four : List (Fin 4) := [0, 1, 2, 3]

/-- The copies started before anything is received. -/
abbrev sends0 : List Slot := [.xp 0, .xp 1, .cw 0 0, .ccw 0 0, .cw 0 1, .ccw 0 1]

/-- The events up to the first step of the relay. -/
abbrev evs0 : List Ev :=
  [.recv (.xp 0), .recv (.xp 1), .send (.cw 0 2), .send (.ccw 0 2), .send (.cw 0 3), .send (.ccw 0 3), .use (.xp 0), .use (.xp 1)]

/-- The clockwise slice at `c` received and, if there is a further step, passed on. -/
def relayCw (h : Fin 8) (c : Fin 4) : List Ev :=
  .recv (.cw h c) :: if h' : h.val + 1 < 8 then [.send (.cw ⟨h.val + 1, h'⟩ c)] else []
/-- The counter-clockwise slice at `c` received and, if there is a further step, passed on. -/
def relayCcw (h : Fin 7) (c : Fin 4) : List Ev :=
  .recv (.ccw h c) :: if h' : h.val + 1 < 7 then [.send (.ccw ⟨h.val + 1, h'⟩ c)] else []

/-- The events of step `h` of the relay. -/
def evsAt (h : Fin 8) : List Ev :=
  four.flatMap (relayCw h)
    ++ (if h' : h.val < 7 then four.flatMap (relayCcw ⟨h.val, h'⟩) else [])
    ++ four.map (fun c => .use (.cw h c))
    ++ (if h' : h.val < 7 then four.map (fun c => .use (.ccw ⟨h.val, h'⟩ c)) else [])

/-- The events after the first use of the device's own slices. -/
def evs : List Ev := evs0 ++ ([0, 1, 2, 3, 4, 5, 6, 7] : List (Fin 8)).flatMap evsAt

/-- The copies in the order their sources are waited for. -/
def order : List Slot :=
  sends0 ++ [.cw 0 2, .ccw 0 2, .cw 0 3, .ccw 0 3]
    ++ ([0, 1, 2, 3, 4, 5, 6] : List (Fin 7)).flatMap fun h =>
      four.map (fun c => .cw ⟨h.val + 1, by omega⟩ c)
        ++ (if h' : h.val + 1 < 7 then four.map (fun c => .ccw ⟨h.val + 1, h'⟩ c) else [])

section
variable {F : FTy → Type} [FloatOps F]

/-- The barrier's semaphore. -/
abbrev bar : Sem sig := (SemArray.scalar (sig.barrier 0 rfl) : Sems sig S_).sem

/-- The whole body. -/
def body (F : FTy → Type) [FloatOps F] : PR F PUnit := do
  let d ← Prog.lift .deviceId
  semSignalWord (nxt d) bar 1#32
  semSignalWord (prv d) bar 1#32
  semSignalWord (prt d) bar 1#32
  semWaitWord bar 3#32
  let ew : Vec F S2x256x512 .bf16 ← Prog.lift (.load (Memref.whole cc0_stg3_0) (Rect.unit (s := S2x256x512) ![0, 0, 0] S2x256x512.size inb_S2x256x512_S2x256x512_0_0_0).toLoadRect (View.loadsAt_vmem h_S2x256x512))
  let _ : Vec F S2x256x512 .bf16 ← Prog.lift (.load (Memref.whole cc0_scratch0) (Rect.unit (s := S2x256x512) ![0, 0, 0] S2x256x512.size inb_S2x256x512_S2x256x512_0_0_0).toLoadRect (View.loadsAt_vmem h_S2x256x512))
  Prog.lift (.store (Memref.whole cc0_scratch0) (Rect.unit (s := S2x256x512) ![0, 0, 0] S2x256x512.size inb_S2x256x512_S2x256x512_0_0_0) (k0_pay1 ew) Finset.univ (View.stores_vmem h_S2x256x512 ((Memref.isWhole_whole _).storeExact_slice rfl _ packedbf16_S2x256x512_S2x256x512_0_0_0) (fun _ => rfl)) (.inl rfl))
  sendsP d sends0
  let x : Vec F S512x256 .bf16 ← Prog.lift (.load (Memref.whole cc0_stg0_0) (Rect.unit (s := S512x256) ![0, 0] S512x256.size inb_S512x256_S512x256_0_0).toLoadRect (View.loadsAt_vmem h_S512x256))
  let rw : Vec F S256x64 .bf16 ← Prog.lift (.load (Memref.whole cc0_stg1_0) (Rect.unit (s := S256x64) ![0, 0] S256x64.size inb_S256x64_S256x64_0_0).toLoadRect (View.loadsAt_vmem h_S256x64))
  let i0 : Vec F S512x1 .i32 ← Prog.lift (.load (Memref.whole cc0_stg2_0) (Rect.unit (s := S512x2) ![0, 0] S512x1.size inb_S512x2_S512x1_0_0).toLoadRect (View.loadsAt_vmem h_S512x1))
  let i1 : Vec F S512x1 .i32 ← Prog.lift (.load (Memref.whole cc0_stg2_0) (Rect.unit (s := S512x2) ![0, 1] S512x1.size inb_S512x2_S512x1_0_1).toLoadRect (View.loadsAt_vmem h_S512x1))
  let w0 ← ldPair 0
  let w1 ← ldPair 1
  let acc ← evsP d (k0_pay2 x) (k0_pay3 (k0_pay2 x) rw i0 i1) evs
    (addTerm (k0_pay2 x) (k0_pay3 (k0_pay2 x) rw i0 i1) (myW d) 1#32 w1
      (addTerm (k0_pay2 x) (k0_pay3 (k0_pay2 x) rw i0 i1) (myW d) 0#32 w0 (k0_pay4 (F := F))))
  let _ : Vec F S512x512 .f32 ← Prog.lift (.load (Memref.whole cc0_stg4_0) (Rect.unit (s := S512x512) ![0, 0] S512x512.size inb_S512x512_S512x512_0_0).toLoadRect (View.loadsAt_vmem h_S512x512))
  Prog.lift (.store (Memref.whole cc0_stg4_0) (Rect.unit (s := S512x512) ![0, 0] S512x512.size inb_S512x512_S512x512_0_0) acc Finset.univ (View.stores_vmem_bits_univ h_S512x512 rfl) (.inl rfl))
  swaitsP order

/-- The printed body, at the memory the pipeline calls it with, is the body above. -/
theorem body_eq : cc0_body (F := F) (win0_0.stage 0) (hstage0_0 0) (win0_1.stage 0) (hstage0_1 0) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15
    = body F := by
  sl_kernel_rfl

end

end Cert.KernelIdeal.Moe
-- ==== Proof.KernelIdeal.Mesh.lean ====
module

public import proofs.«01_k».proof.Proof.KernelIdeal.Plain

/-! # Which device's slice a slot receives

The thirty-two devices form two lanes of sixteen places each. This module says where each device
stands, which device stands where, and whose slice each slot receives; it reads the words the kernel
computes as those devices' numbers, and it fixes the order of the relay's events. -/

@[expose] public section

noncomputable section

namespace Cert.KernelIdeal.Moe

open Idealize.ShloMosaic Idealize.ShloMosaic.TcCoe Idealize.SL.Sem
open Cert.KernelIdeal.Gen

/-! ## Places -/

/-- The coordinate `y` of a place. -/
def yAt (p : Fin 16) : Nat := ![0, 0, 0, 0, 1, 1, 1, 2, 2, 2, 3, 3, 3, 3, 2, 1] p
/-- The coordinate `z` of a place. -/
def zAt (p : Fin 16) : Nat := ![0, 1, 2, 3, 3, 2, 1, 1, 2, 3, 3, 2, 1, 0, 0, 0] p

theorem dvLt : ∀ (x : Fin 2) (p : Fin 16),
    8 * zAt p + (if yAt p % 2 = 0 then 2 * yAt p + x.val else 2 * yAt p + 1 - x.val) < nD := by decide

/-- The device at a place of a lane. -/
def dv (x : Fin 2) (p : Fin 16) : Dev nD :=
  ⟨8 * zAt p + (if yAt p % 2 = 0 then 2 * yAt p + x.val else 2 * yAt p + 1 - x.val), dvLt x p⟩

/-- The lane of a device. -/
def lane (d : Dev nD) : Fin 2 :=
  if (d.val % 8 / 2) % 2 = 0 then Fin.ofNat 2 (d.val % 8) else Fin.ofNat 2 (d.val % 8 + 1)

/-- The place of a device on its lane. -/
def pos (d : Dev nD) : Fin 16 :=
  if d.val % 8 / 2 = 0 then Fin.ofNat 16 (d.val / 8)
  else if d.val % 8 / 2 = 1 then (if d.val / 8 = 0 then 15 else Fin.ofNat 16 (7 - d.val / 8))
  else if d.val % 8 / 2 = 2 then (if d.val / 8 = 0 then 14 else Fin.ofNat 16 (6 + d.val / 8))
  else Fin.ofNat 16 (13 - d.val / 8)

theorem dv_self : ∀ d : Dev nD, dv (lane d) (pos d) = d := by decide +kernel
theorem lane_dv : ∀ (x : Fin 2) (p : Fin 16), lane (dv x p) = x := by decide +kernel
theorem pos_dv : ∀ (x : Fin 2) (p : Fin 16), pos (dv x p) = p := by decide +kernel

theorem nxt_eq : ∀ d : Dev nD, nxt d = dv (lane d) (pos d + 1) := by decide +kernel
theorem prv_eq : ∀ d : Dev nD, prv d = dv (lane d) (pos d - 1) := by decide +kernel
theorem prt_eq : ∀ d : Dev nD, prt d = dv (1 - lane d) (pos d) := by decide +kernel

theorem up_down : ∀ p : Fin 16, p + 1 - 1 = p := by decide
theorem down_up : ∀ p : Fin 16, p - 1 + 1 = p := by decide
theorem other_other : ∀ x : Fin 2, 1 - (1 - x) = x := by decide

theorem prv_nxt (d : Dev nD) : prv (nxt d) = d := by
  rw [nxt_eq, prv_eq, lane_dv, pos_dv, up_down, dv_self]
theorem nxt_prv (d : Dev nD) : nxt (prv d) = d := by
  rw [prv_eq, nxt_eq, lane_dv, pos_dv, down_up, dv_self]
theorem prt_prt (d : Dev nD) : prt (prt d) = d := by
  rw [prt_eq d, prt_eq, lane_dv, pos_dv, other_other, dv_self]

/-- The device a slot's copy comes from. -/
def frm : Slot → Dev nD → Dev nD
  | .xp _ => prt
  | .cw _ _ => prv
  | .ccw _ _ => nxt

theorem frm_tgt (s : Slot) (d : Dev nD) : frm s (tgt s d) = d := by
  cases s
  · exact prt_prt d
  · exact prv_nxt d
  · exact nxt_prv d
theorem tgt_frm (s : Slot) (d : Dev nD) : tgt s (frm s d) = d := by
  cases s
  · exact prt_prt d
  · exact nxt_prv d
  · exact prv_nxt d

/-- A slot's copies, from every device to the one it goes to. -/
def around (s : Slot) : Dev nD ≃ Dev nD := ⟨tgt s, frm s, frm_tgt s, tgt_frm s⟩

/-! ## Whose slice -/

/-- The device whose slice a slot receives. -/
def own (d : Dev nD) : Slot → Dev nD
  | .xp _ => prt d
  | .cw h c => dv (if c.val < 2 then lane d else 1 - lane d) (pos d - 1 - Fin.ofNat 16 h.val)
  | .ccw h c => dv (if c.val < 2 then lane d else 1 - lane d) (pos d + 1 + Fin.ofNat 16 h.val)

/-- Which of its device's two slices a slot receives. -/
def sub : Slot → Fin 2
  | .xp c => c
  | .cw _ c => Fin.ofNat 2 c.val
  | .ccw _ c => Fin.ofNat 2 c.val

/-- The device and the slice a source holds. -/
def ownP (d : Dev nD) : Fin 2 ⊕ Slot → Dev nD × Fin 2
  | .inl c => (d, c)
  | .inr s => (own d s, sub s)

/-- What a slot receives on the device it goes to is what its source holds on the device it leaves. -/
theorem ownP_tgt : ∀ (s : Slot) (d : Dev nD), ownP (tgt s d) (.inr s) = ownP d (par s) := by decide +kernel

theorem sub2_eq : ∀ s : Slot, sub2 s = BitVec.ofNat 32 (sub s).val := by decide +kernel

theorem myW_eq : ∀ d : Dev nD, myW d = BitVec.ofNat 32 d.val := by decide +kernel

/-- The word the kernel computes for a slot is its device's number. -/
theorem ownW_eq : ∀ (s : Slot) (d : Dev nD), ownW d s = BitVec.ofNat 32 (own d s).val := by decide +kernel

/-! ## Quarters and levels -/

/-- Which quarter of its source a slot's copy borrows. -/
def kq : Slot → Fin 4
  | .xp _ => 0
  | .cw _ _ => 1
  | .ccw _ _ => 2

/-- The source and the quarter a slot's copy borrows. -/
def lent (s : Slot) : (Fin 2 ⊕ Slot) × Fin 4 := (par s, kq s)

theorem lent_inj : Function.Injective lent := by
  intro a b h
  have h' : lent a = lent b := h
  revert a b; decide +kernel

theorem kq_ne3 : ∀ s : Slot, kq s ≠ 3 := by decide

theorem lent_ne3 : ∀ (s : Slot) (p : Fin 2 ⊕ Slot), lent s ≠ (p, 3) := by
  intro s p h
  have h3 : kq s = 3 := congrArg Prod.snd h
  exact kq_ne3 s h3

/-- The level of a slot's wait: a later step of the relay has a higher one. -/
def lvl : Slot → Nat
  | .xp _ => 2
  | .cw h _ => 3 + h.val
  | .ccw h _ => 3 + h.val

theorem lvl_pos : ∀ s : Slot, 1 < lvl s := by decide

/-- Which of a device's three neighbours sends into a slot. -/
def cls : Slot → Fin 3
  | .ccw _ _ => 0
  | .cw _ _ => 1
  | .xp _ => 2

/-! ## The order of the events -/

/-- Whether a source's contents are there when the slots `V` have not been received. -/
def there (p : Fin 2 ⊕ Slot) (V : Finset Slot) : Prop := match p with | .inl _ => True | .inr s => s ∉ V

instance (p : Fin 2 ⊕ Slot) (V : Finset Slot) : Decidable (there p V) := by
  cases p <;> unfold there <;> infer_instance

/-- A list of events is in order from where the copies of `U` are still to be sent and those of `V`
    to be received: a slot is sent once, from a source that is there; received once, before it is sent
    on and below the levels of all that is still to be sent; and read after it was received. -/
def inOrder : List Ev → Finset Slot → Finset Slot → Prop
  | [], _, _ => True
  | .send s :: es, U, V => s ∈ U ∧ there (par s) V ∧ inOrder es (U.erase s) V
  | .recv s :: es, U, V => s ∈ V ∧ (∀ s', par s' = .inr s → s' ∈ U) ∧ (∀ s' ∈ U, lvl s < lvl s') ∧ inOrder es U (V.erase s)
  | .use s :: es, U, V => s ∉ V ∧ inOrder es U V

/-- The copies still to be sent after a list of events. -/
def unsent : List Ev → Finset Slot → Finset Slot
  | [], U => U
  | .send s :: es, U => unsent es (U.erase s)
  | .recv _ :: es, U => unsent es U
  | .use _ :: es, U => unsent es U

/-- The slots still to be received after a list of events. -/
def unreceived : List Ev → Finset Slot → Finset Slot
  | [], V => V
  | .send _ :: es, V => unreceived es V
  | .recv s :: es, V => unreceived es (V.erase s)
  | .use _ :: es, V => unreceived es V

instance decInOrder : ∀ (es : List Ev) (U V : Finset Slot), Decidable (inOrder es U V)
  | [], _, _ => isTrue trivial
  | .send s :: es, U, V => by
    have := decInOrder es (U.erase s) V; unfold inOrder; infer_instance
  | .recv s :: es, U, V => by
    have := decInOrder es U (V.erase s); unfold inOrder; infer_instance
  | .use s :: es, U, V => by
    have := decInOrder es U V; unfold inOrder; infer_instance

/-- All the events: the first copies started, then the relay. -/
def allEvs : List Ev := sends0.map Ev.send ++ evs

/-- The kernel's events are in order. -/
theorem inOrder_all : inOrder allEvs Finset.univ Finset.univ := by decide +kernel
/-- They send every copy, -/
theorem unsent_all : unsent allEvs Finset.univ = ∅ := by decide +kernel
/-- receive every slot, -/
theorem unreceived_all : unreceived allEvs Finset.univ = ∅ := by decide +kernel
/-- and the sources are waited for once each. -/
theorem order_nodup : order.Nodup := by decide +kernel
theorem order_all : order.toFinset = Finset.univ := by decide +kernel

end Cert.KernelIdeal.Moe
-- ==== Proof.KernelIdeal.Sched.lean ====
module

public import proofs.«01_k».proof.Proof.KernelIdeal.Mesh
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

/-! # The protocol: who pays which semaphore, when and with what

A device's barrier semaphore is paid once by each of its three neighbours, and each neighbour hands
over the slots that the device will write on it. A slot's receive semaphore is paid by the copy that
fills the slot, with the slot at its contents; its send semaphore by the same copy, with the quarter
of the source that the copy borrowed. -/

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The resource algebra -/

abbrev UB : Type := URounds (GSem nD τ sig) (Fin 3)
abbrev UU : Type := UR sig nD τ × UB

section
variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What a semaphore is for -/

/-- A copy's semaphore is a slot's send or receive semaphore, or none of the protocol's. -/
inductive SK
  | non
  | snd (s : Slot)
  | rcv (s : Slot)
deriving DecidableEq

/-- What a copy's semaphore is for. -/
def kind (q : DmaSem sig) : SK :=
  if q.val < 5 then .non
  else if q.val < 7 then .snd (.xp (Fin.ofNat 2 (q.val - 5)))
  else if q.val < 9 then .rcv (.xp (Fin.ofNat 2 (q.val - 7)))
  else if q.val < 41 then .snd (.cw (Fin.ofNat 8 ((q.val - 9) / 4)) (Fin.ofNat 4 (q.val - 9)))
  else if q.val < 73 then .rcv (.cw (Fin.ofNat 8 ((q.val - 41) / 4)) (Fin.ofNat 4 (q.val - 41)))
  else if q.val < 101 then .snd (.ccw (Fin.ofNat 7 ((q.val - 73) / 4)) (Fin.ofNat 4 (q.val - 73)))
  else if q.val < 129 then .rcv (.ccw (Fin.ofNat 7 ((q.val - 101) / 4)) (Fin.ofNat 4 (q.val - 101)))
  else .non

theorem kind_send : ∀ s : Slot, kind (sendS s) = .snd s := by decide +kernel
theorem kind_recv : ∀ s : Slot, kind (recvS s) = .rcv s := by decide +kernel

/-! ## The cells -/

abbrev barCell (c : Dev nD) : GSem nD τ sig := ((c : Thread nD τ), .reg bar)
abbrev sndCell (c : Dev nD) (s : Slot) : GSem nD τ sig := ((c : Thread nD τ), .dma (sendS s))
abbrev rcvCell (c : Dev nD) (s : Slot) : GSem nD τ sig := ((c : Thread nD τ), .dma (recvS s))

/-- What one copy credits its semaphores with. -/
abbrev N : ℕ := (pairM 0).view.dmaCredit
theorem N_pos : 0 < N := View.dmaCredit_pos _ (by decide)
theorem credit_eq : ∀ p : Fin 2 ⊕ Slot, (memM p).view.dmaCredit = N
  | .inl _ => rfl
  | .inr (.xp _) => rfl
  | .inr (.cw _ _) => rfl
  | .inr (.ccw _ _) => rfl

/-! ## Contents -/

/-- The contents of a slice. -/
abbrev Sl (F : FTy → Type) : Type := S256x512.Idx → Elt F .bf16

/-- What a source holds on a device, the devices' own slices being `Wt`. -/
def held (Wt : Dev nD → Fin 2 → Sl F) (d : Dev nD) (p : Fin 2 ⊕ Slot) : Sl F := Wt (ownP d p).1 (ownP d p).2

omit [FloatOps F] in
theorem held_tgt (Wt : Dev nD → Fin 2 → Sl F) (s : Slot) (d : Dev nD) : held Wt (tgt s d) (.inr s) = held Wt d (par s) := by
  unfold held; rw [ownP_tgt]

/-- The quarters of a full share. -/
def qs : Fin 4 → PosShare TreeShare :=
  ![fullShare.left.left, fullShare.left.right, fullShare.right.left, fullShare.right.right]

/-- A slot of a device at contents nobody knows. -/
def free (d : Dev nD) (s : Slot) : sProp 𝕄 :=
  iprop(∃ f, (dstM s).view.loc (d : Thread nD τ) ↦[(dstM s).view.set]{fullShare} f)

/-- A source of a device at its contents, at a share. -/
def has (Wt : Dev nD → Fin 2 → Sl F) (d : Dev nD) (p : Fin 2 ⊕ Slot) (q : PosShare TreeShare) : sProp 𝕄 :=
  owns (d : Thread nD τ) (memM p) q (held Wt d p)

omit [FloatOps F] in
instance free_storable (d : Dev nD) (s : Slot) : BI.Storable (upEmb : UEmb _ 𝕄) (free (F := F) d s) := by
  unfold free; infer_instance
omit [FloatOps F] in
instance has_storable (Wt : Dev nD → Fin 2 → Sl F) (d : Dev nD) (p : Fin 2 ⊕ Slot) (q : PosShare TreeShare) :
    BI.Storable (upEmb : UEmb _ 𝕄) (has Wt d p q) := by
  unfold has; rw [owns_eq_ownsSat]; infer_instance

/-- What a neighbour hands over when it signals a device's barrier: the slots the device will write there. -/
def barPay (c : Dev nD) (j : Fin 3) : sProp 𝕄 :=
  bigSep (Finset.univ.filter fun s : Slot => cls s = j) fun s => free (tgt s c) s

omit [FloatOps F] in
instance barPay_storable (c : Dev nD) (j : Fin 3) : BI.Storable (upEmb : UEmb _ 𝕄) (barPay (F := F) c j) := by
  unfold barPay; infer_instance

/-! ## The schedule -/

/-- One round: a barrier has one duty for each neighbour, a slot's semaphore the one of its copy. -/
def rd (Wt : Dev nD → Fin 2 → Sl F) : Rounds.Schedule (GSem nD τ sig) (Fin 3) 𝕄 where
  duties g r := if r = 0 ∧ g.1.2 = .tc then
      (match g.2 with
        | .reg _ => Finset.univ
        | .dma q => match kind q with | .non => ∅ | .snd _ => {0} | .rcv _ => {0})
    else ∅
  unitless _ := False
  amount g _ _ := match g.2 with | .reg _ => 1 | .dma _ => N
  payload g _ j := match g.2 with
    | .reg _ => barPay g.1.1 j
    | .dma q => match kind q with
      | .non => iprop(emp)
      | .snd s => has Wt g.1.1 (par s) (qs (kq s))
      | .rcv s => has Wt g.1.1 (.inr s) fullShare
  amount_pos g _ _ _ := by
    cases g.2
    · exact Nat.one_pos
    · exact N_pos

instance rd_payload_storable (Wt : Dev nD → Fin 2 → Sl F) (g : GSem nD τ sig) (r : ℕ) (d : Fin 3) :
    BI.Storable (upEmb : UEmb _ 𝕄) ((rd Wt).payload g r d) := by
  unfold rd; dsimp only
  split
  · infer_instance
  · split <;> infer_instance

section Sched
variable (Wt : Dev nD → Fin 2 → Sl F) (c : Dev nD) (s : Slot)

omit [FloatOps F] in
theorem duties_bar : (rd Wt).duties (barCell c) 0 = Finset.univ := by dsimp only [rd]; exact if_pos ⟨rfl, rfl⟩
omit [FloatOps F] in
theorem duties_snd : (rd Wt).duties (sndCell c s) 0 = {0} := by
  dsimp only [rd]; rw [if_pos ⟨rfl, rfl⟩, kind_send]
omit [FloatOps F] in
theorem duties_rcv : (rd Wt).duties (rcvCell c s) 0 = {0} := by
  dsimp only [rd]; rw [if_pos ⟨rfl, rfl⟩, kind_recv]
omit [FloatOps F] in
theorem duties_later (g : GSem nD τ sig) : ∀ r, 1 ≤ r → (rd Wt).duties g r = ∅ :=
  fun r hr => by dsimp only [rd]; exact if_neg fun h => by omega

omit [FloatOps F] in
theorem expect_bar : (rd Wt).expect (barCell c) 0 = 3 := by
  unfold Schedule.expect Schedule.amountOf; rw [duties_bar]; rfl
omit [FloatOps F] in
theorem expect_snd : (rd Wt).expect (sndCell c s) 0 = N := by
  unfold Schedule.expect Schedule.amountOf; rw [duties_snd, Finset.sum_singleton]; rfl
omit [FloatOps F] in
theorem expect_rcv : (rd Wt).expect (rcvCell c s) 0 = N := by
  unfold Schedule.expect Schedule.amountOf; rw [duties_rcv, Finset.sum_singleton]; rfl

omit [FloatOps F] in
theorem payload_bar (j : Fin 3) : (rd Wt).payload (barCell c) 0 j = barPay c j := rfl
omit [FloatOps F] in
theorem payload_snd (j : Fin 3) : (rd Wt).payload (sndCell c s) 0 j = has Wt c (par s) (qs (kq s)) := by
  dsimp only [rd]; rw [kind_send]
omit [FloatOps F] in
theorem payload_rcv (j : Fin 3) : (rd Wt).payload (rcvCell c s) 0 j = has Wt c (.inr s) fullShare := by
  dsimp only [rd]; rw [kind_recv]

omit [FloatOps F] in
/-- The three neighbours together hand over every slot the device will write. -/
theorem rest_bar : bigSep ((rd Wt).duties (barCell c) 0 \ ∅) (fun j => (rd Wt).payload (barCell c) 0 j)
    ⊢ (bigSep Finset.univ fun s : Slot => free (tgt s c) s : sProp 𝕄) := by
  rw [Finset.sdiff_empty, duties_bar]
  have h : (Finset.univ.biUnion fun j : Fin 3 => Finset.univ.filter fun s : Slot => cls s = j) = Finset.univ := by
    ext s; simp
  rw [← h]
  exact bigSep_biUnion Finset.univ (fun j : Fin 3 => Finset.univ.filter fun s : Slot => cls s = j)
omit [FloatOps F] in
theorem rest_snd : bigSep ((rd Wt).duties (sndCell c s) 0 \ ∅) (fun j => (rd Wt).payload (sndCell c s) 0 j)
    = has Wt c (par s) (qs (kq s)) := by
  rw [Finset.sdiff_empty, duties_snd, bigSep_singleton, payload_snd]
omit [FloatOps F] in
theorem rest_rcv : bigSep ((rd Wt).duties (rcvCell c s) 0 \ ∅) (fun j => (rd Wt).payload (rcvCell c s) 0 j)
    = has Wt c (.inr s) fullShare := by
  rw [Finset.sdiff_empty, duties_rcv, bigSep_singleton, payload_rcv]

end Sched

/-! ## What each device owes; the levels -/

/-- The receive credits owed for the copies of `U`. -/
def owedR (c : Dev nD) (U : Finset Slot) : CellTallies nD τ sig Unit := ∑ s ∈ U, tallyAt (rcvCell (tgt s c) s) () N

/-- At launch a device owes every copy's receive credit and each neighbour's barrier a unit. -/
def O₀ (c : Dev nD) : CellTallies nD τ sig Unit :=
  owedR c Finset.univ + tallyAt (barCell (prt c)) () 1 + tallyAt (barCell (prv c)) () 1 + tallyAt (barCell (nxt c)) () 1

def L (g : GSem nD τ sig) : Finset Unit := if g.1.2 = .tc then {()} else ∅
/-- Staging and send semaphores lie at 0, the barrier at 1, a slot's receive semaphore at the slot's level. -/
def lv (g : GSem nD τ sig) (_ : Unit) : ℕ := match g.2 with
  | .reg _ => 1
  | .dma q => match kind q with | .non => 0 | .snd _ => 0 | .rcv s => lvl s

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rcv (c : Dev nD) (s : Slot) : lv (rcvCell c s) () = lvl s := by dsimp only [lv]; rw [kind_recv]

theorem owedR_pos {c : Dev nD} {U : Finset Slot} {g : GSem nD τ sig} {u : Unit} (h : 0 < owedR c U g u) :
    ∃ s ∈ U, g = rcvCell (tgt s c) s := by
  unfold owedR at h
  rw [Finset.sum_apply, Finsupp.finsetSum_apply] at h
  obtain ⟨s, hs, hp⟩ := Finset.exists_ne_zero_of_sum_ne_zero (Nat.pos_iff_ne_zero.mp h)
  refine ⟨s, hs, ?_⟩
  by_contra hn
  rw [tallyAt_apply, if_neg (fun h' => hn h'.1)] at hp
  exact hp rfl

theorem owedR_erase (c : Dev nD) {U : Finset Slot} {s : Slot} (h : s ∈ U) :
    owedR c U = owedR c (U.erase s) + tallyAt (rcvCell (tgt s c) s) () N := by
  unfold owedR; exact (Finset.sum_erase_add _ _ h).symm

theorem O₀_pos {c : Dev nD} {g : GSem nD τ sig} {u : Unit} (h : 0 < O₀ c g u) :
    (∃ s, g = rcvCell (tgt s c) s) ∨ ∃ d, g = barCell d := by
  unfold O₀ at h
  rw [Pi.add_apply, Finsupp.add_apply, Pi.add_apply, Finsupp.add_apply, Pi.add_apply, Finsupp.add_apply,
    tallyAt_apply, tallyAt_apply, tallyAt_apply] at h
  by_contra hn
  rw [not_or, not_exists, not_exists] at hn
  rw [if_neg (fun h' => hn.2 _ h'.1), if_neg (fun h' => hn.2 _ h'.1), if_neg (fun h' => hn.2 _ h'.1)] at h
  obtain ⟨s, -, hs⟩ := owedR_pos (by simpa using h)
  exact hn.1 s hs

omit [FloatOps F] in
/-- A wait at a level below what is owed may be made. -/
theorem mayWait_owedR (c : Dev nD) (sm : SemLoc sig) (k : ℕ) (hk : lv ((c : Thread nD τ), sm) () ≤ k) (U : Finset Slot)
    (hU : ∀ s ∈ U, k < lvl s) : (levAts L lv : sProp 𝕄) ⊢ MayWait (c : Thread nD τ) sm () (owedR c U) :=
  MayOwe.of_cut (L := L) (lev := lv) k (fun p hp => by rw [Finset.mem_singleton.mp hp, L_tc]; exact Finset.mem_singleton_self _)
    (fun g u hg => by obtain ⟨s, -, rfl⟩ := owedR_pos hg; rw [L_tc]; exact Finset.mem_singleton_self _)
    (fun p hp => by rw [Finset.mem_singleton.mp hp]; exact hk)
    (fun g u hg => by obtain ⟨s, hs, rfl⟩ := owedR_pos hg; rw [lv_rcv]; exact hU s hs)

omit [FloatOps F] in
theorem mayWait_stage (c : Dev nD) (q : DmaSem sig) (hq : kind q = .non) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨s, rfl⟩ | ⟨d, rfl⟩ <;> exact Finset.mem_singleton_self _)
      (fun p hp => by rw [Finset.mem_singleton.mp hp]; dsimp only [lv]; rw [hq])
      (fun g u hg => by
        rcases O₀_pos hg with ⟨s, rfl⟩ | ⟨d, rfl⟩
        · rw [lv_rcv]; exact lt_trans Nat.one_pos (lvl_pos s)
        · exact Nat.one_pos)
  · rw [MayWait_zero]; iintro -; iempintro

/-! ## The protocol's cells and the records of them -/

/-- The cells of a device: its barrier, its send and its receive semaphores. -/
abbrev CK : Type := Unit ⊕ Slot ⊕ Slot

abbrev csem : CK → SemLoc sig
  | .inl _ => .reg bar
  | .inr (.inl s) => .dma (sendS s)
  | .inr (.inr s) => .dma (recvS s)
abbrev kcell (ck : Dev nD × CK) : GSem nD τ sig := ((ck.1 : Thread nD τ), csem ck.2)

/-- Every cell's invariant, that every cell reached its first round, and the levels. -/
def recs (Wt : Dev nD → Fin 2 → Sl F) (K : Dev nD × CK → ℕ) : sProp 𝕄 :=
  iprop((bigSep Finset.univ fun ck : Dev nD × CK => cellInv ER (rd Wt) (K ck) (kcell ck))
    ∗ (bigSep Finset.univ fun ck : Dev nD × CK => reached ER (kcell ck) 0) ∗ levAts L lv)

instance recs_persistent (Wt : Dev nD → Fin 2 → Sl F) (K : Dev nD × CK → ℕ) : BI.Persistent (recs Wt K) := by
  unfold recs; infer_instance

section Recs
variable (Wt : Dev nD → Fin 2 → Sl F) (K : Dev nD × CK → ℕ)

omit [FloatOps F] in
theorem inv_at (ck : Dev nD × CK) :
    (bigSep Finset.univ fun ck : Dev nD × CK => (cellInv ER (rd Wt) (K ck) (kcell ck) : sProp 𝕄)) ⊢ cellInv ER (rd Wt) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

omit [FloatOps F] in
theorem recs_inv (ck : Dev nD × CK) : recs Wt K ⊢ cellInv ER (rd Wt) (K ck) (kcell ck) := by
  unfold recs; iintro ⟨H, -, -⟩
  iapply (inv_at Wt K ck)
  iexact H
omit [FloatOps F] in
theorem recs_reached (ck : Dev nD × CK) : recs Wt K ⊢ reached ER (kcell ck) 0 := by
  unfold recs; iintro ⟨-, H, -⟩
  iapply (reached_at (F := F) ck)
  iexact H
omit [FloatOps F] in
theorem recs_wait (c : Dev nD) (s : Slot) (U : Finset Slot) (hU : ∀ s' ∈ U, lvl s < lvl s') :
    recs Wt K ⊢ MayWait (c : Thread nD τ) (.dma (recvS s)) () (owedR c U) := by
  unfold recs; iintro ⟨-, -, H⟩
  iapply (mayWait_owedR c (.dma (recvS s)) (lvl s) (le_of_eq (lv_rcv c s)) U hU)
  iexact H

end Recs

end

end Cert.KernelIdeal.Moe
-- ==== Proof.KernelIdeal.Steps.lean ====
module

public import proofs.«01_k».proof.Proof.KernelIdeal.Sched
public import Idealize.ShloMosaic.Lib.Ring.AtN

/-! # What a device holds between two events, and each event's step

Between two events of the relay a device's holdings depend only on which copies it has still to send
and which slots it has still to receive. Each kind of event is proved once, at any slot. -/

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]

local notation "𝕄" => MT nD τ sig Unit (Elt F) ℕ UU ℕ

abbrev 𝒱₀ : Variants := Variants.none

/-- The weakest precondition of a piece of a device's body. -/
abbrev WP {α : Type} (c : Dev nD) (p : PR F α) (Q : α → sProp 𝕄) : sProp 𝕄 :=
  wp frame (wpE (defs₀ (F := F)) 𝒱₀ (c : Thread nD τ) none) Set.univ p Q

/-! ## Taking one member out of a family -/

section
variable {M : Type _} [URA M] {I : Type _} [DecidableEq I] {Φ : I → sProp M}

theorem sep_out {s : Finset I} {i : I} (h : i ∈ s) : bigSep s Φ = iprop(Φ i ∗ bigSep (s.erase i) Φ) := bigSep_erase h
theorem sep_in {s : Finset I} {i : I} (h : i ∉ s) : bigSep (insert i s) Φ = iprop(Φ i ∗ bigSep s Φ) := bigSep_insert h
theorem sep_two {s t : Finset I} (h : Disjoint s t) : bigSep (s ∪ t) Φ = iprop(bigSep s Φ ∗ bigSep t Φ) := bigSep_union h

end

/-! ## Quarters -/

section
variable (Wt : Dev nD → Fin 2 → Sl F) (c : Dev nD)

omit [FloatOps F] in
theorem has_halves (p : Fin 2 ⊕ Slot) (q : PosShare TreeShare) :
    (has Wt c p q : sProp 𝕄) = iprop(has Wt c p q.left ∗ has Wt c p q.right) :=
  BI.Entails.antisymm (owns_halves (c : Thread nD τ) (memM p) q (held Wt c p)).1 (owns_halves (c : Thread nD τ) (memM p) q (held Wt c p)).2

omit [FloatOps F] in
/-- A source held in full is its four quarters. -/
theorem has_quarters (p : Fin 2 ⊕ Slot) :
    (has Wt c p fullShare : sProp 𝕄) = bigSep Finset.univ fun j : Fin 4 => has Wt c p (qs j) := by
  rw [Ring.bigSep_fin4, has_halves Wt c p fullShare, has_halves Wt c p fullShare.left, has_halves Wt c p fullShare.right]
  refine BI.Entails.antisymm ?_ ?_
  · show iprop((has Wt c p fullShare.left.left ∗ has Wt c p fullShare.left.right) ∗ has Wt c p fullShare.right.left ∗ has Wt c p fullShare.right.right)
      ⊢ (iprop(has Wt c p fullShare.left.left ∗ has Wt c p fullShare.left.right ∗ has Wt c p fullShare.right.left ∗ has Wt c p fullShare.right.right) : sProp 𝕄)
    iintro ⟨⟨H0, H1⟩, H2, H3⟩
    isplitl [H0]; · iexact H0
    isplitl [H1]; · iexact H1
    isplitl [H2]; · iexact H2
    iexact H3
  · show (iprop(has Wt c p fullShare.left.left ∗ has Wt c p fullShare.left.right ∗ has Wt c p fullShare.right.left ∗ has Wt c p fullShare.right.right) : sProp 𝕄)
      ⊢ iprop((has Wt c p fullShare.left.left ∗ has Wt c p fullShare.left.right) ∗ has Wt c p fullShare.right.left ∗ has Wt c p fullShare.right.right)
    iintro ⟨H0, H1, H2, H3⟩
    isplitl [H0 H1]
    · isplitl [H0]; · iexact H0
      iexact H1
    isplitl [H2]; · iexact H2
    iexact H3

end

/-! ## Which quarters are in hand -/

/-- The quarters a device has in hand: of a source that is there, those no sent copy borrowed. -/
def hand (U V : Finset Slot) : Finset ((Fin 2 ⊕ Slot) × Fin 4) :=
  Finset.univ.filter fun pj => there pj.1 V ∧ ∀ s, lent s = pj → s ∈ U

theorem mem_hand {U V : Finset Slot} {pj : (Fin 2 ⊕ Slot) × Fin 4} : pj ∈ hand U V ↔ there pj.1 V ∧ ∀ s, lent s = pj → s ∈ U := by
  unfold hand; simp

theorem lent_mem {U V : Finset Slot} {s : Slot} (hs : s ∈ U) (ht : there (par s) V) : lent s ∈ hand U V :=
  mem_hand.mpr ⟨ht, fun s' h => lent_inj h ▸ hs⟩

theorem hand_send (U V : Finset Slot) (s : Slot) : hand (U.erase s) V = (hand U V).erase (lent s) := by
  ext pj
  rw [Finset.mem_erase, mem_hand, mem_hand]
  constructor
  · rintro ⟨h1, h2⟩
    exact ⟨fun h => Finset.notMem_erase s U (h2 s h.symm), h1, fun s' h => Finset.mem_of_mem_erase (h2 s' h)⟩
  · rintro ⟨h0, h1, h2⟩
    exact ⟨h1, fun s' h => Finset.mem_erase.mpr ⟨fun e => h0 (by rw [← h, e]), h2 s' h⟩⟩

/-- The quarters of one slot. -/
def quarters (s : Slot) : Finset ((Fin 2 ⊕ Slot) × Fin 4) := Finset.univ.map ⟨fun j : Fin 4 => (.inr s, j), fun a b h => (Prod.ext_iff.mp h).2⟩

theorem mem_quarters {s : Slot} {pj : (Fin 2 ⊕ Slot) × Fin 4} : pj ∈ quarters s ↔ pj.1 = .inr s := by
  unfold quarters
  simp only [Finset.mem_map, Finset.mem_univ, true_and, Function.Embedding.coeFn_mk]
  constructor
  · rintro ⟨j, rfl⟩; rfl
  · intro h; exact ⟨pj.2, Prod.ext h.symm rfl⟩

theorem hand_recv_disjoint (U V : Finset Slot) (s : Slot) (hs : s ∈ V) : Disjoint (quarters s) (hand U V) := by
  rw [Finset.disjoint_left]
  intro pj h h'
  have := (mem_hand.mp h').1
  rw [mem_quarters.mp h] at this
  exact this hs

theorem hand_recv (U V : Finset Slot) (s : Slot) (hs : s ∈ V) (hc : ∀ s', par s' = .inr s → s' ∈ U) :
    hand U (V.erase s) = quarters s ∪ hand U V := by
  ext ⟨p, j⟩
  rw [Finset.mem_union, mem_quarters, mem_hand, mem_hand]
  cases p with
  | inl x => simp [there]
  | inr s' =>
    by_cases h : s' = s
    · subst h
      simp only [there, Finset.notMem_erase, not_false_eq_true, true_and, true_or, iff_true]
      intro s'' h
      exact hc s'' (congrArg Prod.fst h)
    · simp [there, h, Finset.mem_erase]

theorem free_mem {U V : Finset Slot} {s : Slot} (hs : s ∉ V) : ((.inr s, 3) : (Fin 2 ⊕ Slot) × Fin 4) ∈ hand U V :=
  mem_hand.mpr ⟨hs, fun s' h => absurd h (lent_ne3 s' _)⟩

/-! ## The holdings -/

/-- What a copy still to be sent needs: the slot it lands in and the tokens of what it pays. -/
def toSend (c : Dev nD) (s : Slot) : sProp 𝕄 :=
  iprop(free (tgt s c) s ∗ dutyTok ER (sndCell c s) 0 0 ∗ dutyTok ER (rcvCell (tgt s c) s) 0 0)

/-- What a slot still to be received needs: its semaphore's position and credit. -/
def toRecv (c : Dev nD) (s : Slot) : sProp 𝕄 :=
  iprop(atPos ER (rcvCell c s) 0 ∅ 0 ∗ cred (tallyAt (rcvCell c s) () N))

/-- The credit of a copy that was sent. -/
def sentCred (c : Dev nD) (s : Slot) : sProp 𝕄 := cred (tallyAt (sndCell c s) () N)

/-- What a device holds with the copies of `U` to be sent and the slots of `V` to be received. -/
def St (Wt : Dev nD → Fin 2 → Sl F) (c : Dev nD) (U V : Finset Slot) : sProp 𝕄 :=
  iprop((∃ W, owes (c : Thread nD τ) (owedR c U) W)
    ∗ bigSep U (toSend c) ∗ bigSep Uᶜ (sentCred c)
    ∗ bigSep V (toRecv c) ∗ (bigSep Vᶜ fun s => semVal (rcvCell c s) 0)
    ∗ bigSep (hand U V) fun pj => has Wt c pj.1 (qs pj.2))

variable (Wt : Dev nD → Fin 2 → Sl F) (K : Dev nD × CK → ℕ) (c : Dev nD)

theorem compl_erase {U : Finset Slot} {s : Slot} (h : s ∈ U) : (U.erase s)ᶜ = insert s Uᶜ := by
  ext x; simp [Finset.mem_compl, Finset.mem_erase]

/-- A copy's start at its cells. -/
theorem wp_start {α : Type} (Q : α → sProp 𝕄) (s : Slot) (U : Finset Slot) (hs : s ∈ U) (W : Waits sig Unit) (k : PUnit → PR F α) :
    iprop(recs Wt K ∗ has Wt c (par s) (qs (kq s)) ∗ toSend c s ∗ owes (c : Thread nD τ) (owedR c U) W)
      ⊢ iprop(((sentCred c s ∗ owes (c : Thread nD τ) (owedR c (U.erase s)) W) -∗ WP c (k ⟨⟩) Q) -∗ WP c (sendP c s >>= k) Q) := by
  unfold toSend free has owns sentCred
  iintro ⟨#HR, ⟨%fs, %hfs, Hs⟩, ⟨⟨%fd, Hd⟩, Hts, Htr⟩, HO⟩ Hk
  ihave #HI1 := (recs_inv Wt K (c, .inr (.inl s))) $$ HR
  ihave #HI2 := (recs_inv Wt K (tgt s c, .inr (.inr s))) $$ HR
  ihave #HR1 := (recs_reached Wt K (c, .inr (.inl s))) $$ HR
  ihave #HR2 := (recs_reached Wt K (tgt s c, .inr (.inr s))) $$ HR
  iapply (Rounds.wp_send_pointsTo 𝒱₀ ER (rd Wt) (c : Thread nD τ) none (κ₁ := K (c, .inr (.inl s))) (κ₂ := K (tgt s c, .inr (.inr s)))
    (c' := ((tgt s c : Dev nD) : Thread nD τ)) (src := srcM s) (dst := dstM s) (sS := .dma (sendS s)) (sem := .dma (recvS s)) (q := qs (kq s)) (fs := fs)
    (r₁ := 0) (r₂ := 0) (d₁ := 0) (d₂ := 0) (fd := fd)
    (by rw [duties_snd]; exact Finset.mem_singleton_self _) (by rw [duties_rcv]; exact Finset.mem_singleton_self _)
    () () N (credit_eq (.inr s)) rfl rfl (owedR c (U.erase s)) (owedR_erase c hs) (W := W)
    (by rw [payload_snd]; unfold has owns
        iintro H; iexists fs; isplitr; · ipureintro; exact hfs
        iexact H)
    (by rw [payload_rcv]; unfold has owns
        iintro H; iexists _; isplitr
        · ipureintro; exact (View.read_write_univ (Val := Elt F) (v := (dstM s).view) fd _).trans (hfs.trans (held_tgt Wt s c).symm)
        iexact H)) $$ [Hs Hd HO Hts Htr]
  · isplitr; · iexact HI1
    isplitr; · iexact HI2
    isplitl [Hs]; · iexact Hs
    isplitl [Hd]; · iexact Hd
    isplitl [HO]; · iexact HO
    isplitl [Hts]; · iexact Hts
    isplitr; · iexact HR1
    isplitl [Htr]; · iexact Htr
    iexact HR2
  iexact Hk

/-- A copy's start between two holdings. -/
theorem step_send {α : Type} (Q : α → sProp 𝕄) (s : Slot) (U V : Finset Slot) (hs : s ∈ U) (ht : there (par s) V) (k : PUnit → PR F α) :
    iprop(recs Wt K ∗ St Wt c U V ∗ (St Wt c (U.erase s) V -∗ WP c (k ⟨⟩) Q)) ⊢ WP c (sendP c s >>= k) Q := by
  unfold St
  rw [sep_out (lent_mem hs ht), sep_out hs, hand_send, compl_erase hs,
    sep_in (fun h => Finset.mem_compl.mp h hs)]
  iintro ⟨#HR, ⟨⟨%W, HO⟩, ⟨Hs, HU⟩, HC, HV, HZ, Hq, HH⟩, Hk⟩
  iapply (wp_start Wt K c Q s U hs W k) $$ [Hs Hq HO]
  · isplitr; · iexact HR
    isplitl [Hq]; · iexact Hq
    isplitl [Hs]; · iexact Hs
    iexact HO
  iintro ⟨Hc, HO⟩
  iapply Hk
  isplitl [HO]; · iexists W; iexact HO
  isplitl [HU]; · iexact HU
  isplitl [Hc HC]
  · isplitl [Hc]; · iexact Hc
    iexact HC
  isplitl [HV]; · iexact HV
  isplitl [HZ]; · iexact HZ
  iexact HH

/-- A slot's wait between two holdings: the slot comes in full, its semaphore closes. -/
theorem step_recv {α : Type} (Q : α → sProp 𝕄) (s : Slot) (U V : Finset Slot) (hs : s ∈ V) (hc : ∀ s', par s' = .inr s → s' ∈ U)
    (hl : ∀ s' ∈ U, lvl s < lvl s') (k : PUnit → PR F α) :
    iprop(recs Wt K ∗ St Wt c U V ∗ (St Wt c U (V.erase s) -∗ WP c (k ⟨⟩) Q)) ⊢ WP c (recvP s >>= k) Q := by
  unfold St
  rw [hand_recv U V s hs hc, sep_two (hand_recv_disjoint U V s hs), sep_out hs, compl_erase hs,
    sep_in (fun h => Finset.mem_compl.mp h hs)]
  unfold toRecv
  iintro ⟨#HR, ⟨⟨%W, HO⟩, HU, HC, ⟨⟨Hat, Hcr⟩, HV⟩, HZ, HH⟩, Hk⟩
  ihave #HI := (recs_inv Wt K (c, .inr (.inr s))) $$ HR
  iapply (Rounds.wp_wait_rest_token 𝒱₀ ER (rd Wt) (c : Thread nD τ) none (κ := K (c, .inr (.inr s))) (k' := N) (sm := .dma (recvS s))
      (w := .waitDma2 (recvS s) (srcM s) (dstM s) (weMem _) (weMem (.inr s)))
      (fun K' => (wpE_waitDma2_eq 𝒱₀ (c : Thread nD τ) none Set.univ K').trans (by rw [show (dstM s).view.dmaCredit = N from credit_eq (.inr s)]))
      (Set.mem_univ _) () (O := owedR c U) (W := W) (R := 0) (m := 0) (T := ∅)
      (by rw [Nat.zero_add]; exact (expect_rcv Wt c s).symm)) $$ [Hcr HO Hat]
  · isplitr; · iexact HI
    isplitl [Hcr]; · iexact Hcr
    isplitl [HO]; · iexact HO
    isplitr
    · iapply (recs_wait Wt K c s U hl); iexact HR
    iexact Hat
  iintro ⟨HO, Hat, -, Hpay⟩
  ihave Hp := (Entails.of_eq ((rest_rcv Wt c s).trans (has_quarters Wt c (.inr s)))) $$ Hpay
  imod (Rounds.cell_close ER (rd Wt) (Set.mem_univ (K (c, .inr (.inr s)))) (fun h => h) (R := 0 + 1) (duties_later Wt (rcvCell c s))) $$ [Hat] with Hz
  · isplitr; · iexact HI
    iexact Hat
  iapply Hk
  isplitl [HO]; · iexists _; iexact HO
  isplitl [HU]; · iexact HU
  isplitl [HC]; · iexact HC
  isplitl [HV]; · iexact HV
  isplitl [Hz HZ]
  · isplitl [Hz]; · iexact Hz
    iexact HZ
  isplitl [Hp]
  · unfold quarters; rw [bigSep_map]; iexact Hp
  iexact HH

/-- A load through a slice of a buffer reads what the slice holds. -/
theorem wp_ldSlice {cs : CoreSpace} {s s' : Shape} (m : Memref sig .tc cs s .bf16) (r : Rect s) (hr : ∀ a, r.stride a = 1)
    (hq : r.shape.Squeezes s') (hc : r.shape.ShapeCasts s') (hl : m.view.LoadsAt r.toLoadRect) (q : PosShare TreeShare) (X : s'.Idx → Elt F .bf16)
    {α : Type} (Q : α → sProp 𝕄) (k : (s'.Idx → Elt F .bf16) → PR F α) :
    owns (c : Thread nD τ) ((m.slice r hr).squeeze s' hq) q X
      ⊢ iprop((owns (c : Thread nD τ) ((m.slice r hr).squeeze s' hq) q X -∗ WP c (k X) Q)
          -∗ WP c (.op (.load m r.toLoadRect hl) fun v => k (shapeCast s' v hc)) Q) := by
  have hset : ((m.slice r hr).squeeze s' hq).view.set = (m.view.slice r).set := View.set_reshape (v := m.view.slice r) hq.numel_eq
  have hS : m.view.setOn r.toLoadRect.set ⊆ (m.view.slice r).set := (View.set_slice m.view r).symm ▸ subset_of_eq rfl
  have heq (f : Buf (Elt F) (m.view.loc (c : Thread nD τ))) :
      (((m.slice r hr).squeeze s' hq).view.loc (c : Thread nD τ) ↦[((m.slice r hr).squeeze s' hq).view.set]{q} f : sProp 𝕄)
        = (m.view.loc (c : Thread nD τ) ↦[(m.view.slice r).set]{q} f) := by rw [hset]
  unfold owns
  iintro ⟨%f, %hf, H⟩ Hk
  ihave H := (Entails.of_eq (heq f)) $$ H
  iapply (wp_load 𝒱₀ (c : Thread nD τ) none Set.univ (m := m) (r := r.toLoadRect) (k := fun v => k (shapeCast s' v hc)) hS) $$ H
  iintro H
  rw [show shapeCast s' (m.view.readAt (Elt F) r.toLoadRect f) hc = X from hf]
  iapply Hk
  iexists f; isplitr; · ipureintro; exact hf
  iapply (Entails.of_eq (heq f).symm); iexact H

/-- A load of a slot reads its contents. -/
theorem wp_ldSlot {α : Type} (Q : α → sProp 𝕄) (s : Slot) (q : PosShare TreeShare) (k : FVec F S256x512 .bf16 → PR F α) :
    has Wt c (.inr s) q ⊢ iprop((has Wt c (.inr s) q -∗ WP c (k (held Wt c (.inr s))) Q) -∗ WP c (ldSlot s >>= k) Q) := by
  cases s with
  | xp x => exact wp_ldSlice c (Memref.whole cc0_scratch1) (rPair x) (fun _ => rfl) squeezes_S1x256x512_S256x512 shapeCasts_S1x256x512_S256x512 (View.loadsAt_vmem h_S1x256x512) q (held Wt c (.inr (.xp x))) Q k
  | cw h x => exact wp_ldSlice c (Memref.whole cc0_scratch2) (rCw h x) (fun _ => rfl) squeezes_S1x1x256x512_S256x512 shapeCasts_S1x1x256x512_S256x512 (View.loadsAt_vmem h_S1x1x256x512) q (held Wt c (.inr (.cw h x))) Q k
  | ccw h x => exact wp_ldSlice c (Memref.whole cc0_scratch3) (rCcw h x) (fun _ => rfl) squeezes_S1x1x256x512_S256x512 shapeCasts_S1x1x256x512_S256x512 (View.loadsAt_vmem h_S1x1x256x512) q (held Wt c (.inr (.ccw h x))) Q k

/-- A load of one of the device's own slices reads its contents. -/
theorem wp_ldPair {α : Type} (Q : α → sProp 𝕄) (x : Fin 2) (q : PosShare TreeShare) (k : FVec F S256x512 .bf16 → PR F α) :
    has Wt c (.inl x) q ⊢ iprop((has Wt c (.inl x) q -∗ WP c (k (Wt c x)) Q) -∗ WP c (ldPair x >>= k) Q) :=
  wp_ldSlice c (Memref.whole cc0_scratch0) (rPair x) (fun _ => rfl) squeezes_S1x256x512_S256x512 shapeCasts_S1x256x512_S256x512 (View.loadsAt_vmem h_S1x256x512) q (held Wt c (.inl x)) Q k

/-- A read of a slot between two events. -/
theorem step_use {α : Type} (Q : α → sProp 𝕄) (s : Slot) (U V : Finset Slot) (hs : s ∉ V) (k : FVec F S256x512 .bf16 → PR F α) :
    iprop(St Wt c U V ∗ (St Wt c U V -∗ WP c (k (held Wt c (.inr s))) Q)) ⊢ WP c (ldSlot s >>= k) Q := by
  unfold St
  rw [sep_out (free_mem (U := U) hs)]
  iintro ⟨⟨HO, HU, HC, HV, HZ, Hq, HH⟩, Hk⟩
  iapply (wp_ldSlot Wt c Q s (qs 3) k) $$ Hq
  iintro Hq
  iapply Hk
  isplitl [HO]; · iexact HO
  isplitl [HU]; · iexact HU
  isplitl [HC]; · iexact HC
  isplitl [HV]; · iexact HV
  isplitl [HZ]; · iexact HZ
  isplitl [Hq]; · iexact Hq
  iexact HH

/-- A read of one of the device's own slices between two events. -/
theorem step_pair {α : Type} (Q : α → sProp 𝕄) (x : Fin 2) (U V : Finset Slot) (k : FVec F S256x512 .bf16 → PR F α) :
    iprop(St Wt c U V ∗ (St Wt c U V -∗ WP c (k (Wt c x)) Q)) ⊢ WP c (ldPair x >>= k) Q := by
  unfold St
  rw [sep_out (show ((.inl x, 3) : (Fin 2 ⊕ Slot) × Fin 4) ∈ hand U V from mem_hand.mpr ⟨trivial, fun s' h => absurd h (lent_ne3 s' _)⟩)]
  iintro ⟨⟨HO, HU, HC, HV, HZ, Hq, HH⟩, Hk⟩
  iapply (wp_ldPair Wt c Q x (qs 3) k) $$ Hq
  iintro Hq
  iapply Hk
  isplitl [HO]; · iexact HO
  isplitl [HU]; · iexact HU
  isplitl [HC]; · iexact HC
  isplitl [HV]; · iexact HV
  isplitl [HZ]; · iexact HZ
  isplitl [Hq]; · iexact Hq
  iexact HH

/-- The accumulator after a list of events. -/
def accAfter (x : FVec F S512x256 .bf16) (g : FVec F S512x64 .f32) : List Ev → FVec F S512x512 .f32 → FVec F S512x512 .f32
  | [], acc => acc
  | .send _ :: es, acc => accAfter x g es acc
  | .recv _ :: es, acc => accAfter x g es acc
  | .use s :: es, acc => accAfter x g es (addTerm x g (ownW c s) (sub2 s) (held Wt c (.inr s)) acc)

/-- A list of events in order takes one holding to another and leaves its accumulator. -/
theorem steps {α : Type} (Q : α → sProp 𝕄) (x : FVec F S512x256 .bf16) (g : FVec F S512x64 .f32) (k : FVec F S512x512 .f32 → PR F α) :
    ∀ (es : List Ev) (U V : Finset Slot) (acc : FVec F S512x512 .f32), inOrder es U V →
      iprop(recs Wt K ∗ St Wt c U V ∗ (St Wt c (unsent es U) (unreceived es V) -∗ WP c (k (accAfter Wt c x g es acc)) Q))
        ⊢ WP c (evsP c x g es acc >>= k) Q
  | [], U, V, acc, _ => by
    iintro ⟨-, HS, Hk⟩
    iapply Hk; iexact HS
  | .send s :: es, U, V, acc, h => by
    show _ ⊢ WP c (sendP c s >>= fun _ => evsP c x g es acc >>= k) Q
    iintro ⟨#HR, HS, Hk⟩
    iapply (step_send Wt K c Q s U V h.1 h.2.1 fun _ => evsP c x g es acc >>= k)
    isplitr; · iexact HR
    isplitl [HS]; · iexact HS
    iintro HS
    iapply (steps Q x g k es (U.erase s) V acc h.2.2)
    isplitr; · iexact HR
    isplitl [HS]; · iexact HS
    iexact Hk
  | .recv s :: es, U, V, acc, h => by
    show _ ⊢ WP c (recvP s >>= fun _ => evsP c x g es acc >>= k) Q
    iintro ⟨#HR, HS, Hk⟩
    iapply (step_recv Wt K c Q s U V h.1 h.2.1 h.2.2.1 fun _ => evsP c x g es acc >>= k)
    isplitr; · iexact HR
    isplitl [HS]; · iexact HS
    iintro HS
    iapply (steps Q x g k es U (V.erase s) acc h.2.2.2)
    isplitr; · iexact HR
    isplitl [HS]; · iexact HS
    iexact Hk
  | .use s :: es, U, V, acc, h => by
    have e : (evsP c x g (.use s :: es) acc >>= k)
        = (ldSlot s >>= fun w => evsP c x g es (addTerm x g (ownW c s) (sub2 s) w acc) >>= k) := by
      show ((ldSlot s >>= fun w => pure (addTerm x g (ownW c s) (sub2 s) w acc)) >>= fun a => evsP c x g es a) >>= k = _
      cases s <;> rfl
    rw [e]
    iintro ⟨#HR, HS, Hk⟩
    iapply (step_use Wt c Q s U V h.1 fun w => evsP c x g es (addTerm x g (ownW c s) (sub2 s) w acc) >>= k)
    isplitl [HS]; · iexact HS
    iintro HS
    iapply (steps Q x g k es U V (addTerm x g (ownW c s) (sub2 s) (held Wt c (.inr s)) acc) h.2)
    isplitr; · iexact HR
    isplitl [HS]; · iexact HS
    iexact Hk

/-- A list of starts in order. -/
theorem starts {α : Type} (Q : α → sProp 𝕄) (k : PUnit → PR F α) :
    ∀ (ss : List Slot) (U V : Finset Slot), inOrder (ss.map Ev.send) U V →
      iprop(recs Wt K ∗ St Wt c U V ∗ (St Wt c (unsent (ss.map Ev.send) U) V -∗ WP c (k ⟨⟩) Q)) ⊢ WP c (sendsP c ss >>= k) Q
  | [], U, V, _ => by
    iintro ⟨-, HS, Hk⟩
    iapply Hk; iexact HS
  | s :: ss, U, V, h => by
    show _ ⊢ WP c (sendP c s >>= fun _ => sendsP c ss >>= k) Q
    iintro ⟨#HR, HS, Hk⟩
    iapply (step_send Wt K c Q s U V h.1 h.2.1 fun _ => sendsP c ss >>= k)
    isplitr; · iexact HR
    isplitl [HS]; · iexact HS
    iintro HS
    iapply (starts Q k ss (U.erase s) V h.2.2)
    isplitr; · iexact HR
    isplitl [HS]; · iexact HS
    iexact Hk

/-! ## The last waits -/

/-- What is held with the sources of `R` still to be waited for. -/
def Sw (c : Dev nD) (R : Finset Slot) : sProp 𝕄 :=
  iprop((∃ W, owes (c : Thread nD τ) 0 W)
    ∗ (bigSep R fun s => iprop(sentCred c s ∗ atPos ER (sndCell c s) 0 ∅ 0))
    ∗ bigSep Rᶜ fun s => iprop(semVal (sndCell c s) 0 ∗ has Wt c (par s) (qs (kq s))))

/-- A source's wait: the borrowed quarter comes back, the semaphore closes. -/
theorem step_swait {α : Type} (Q : α → sProp 𝕄) (s : Slot) (R : Finset Slot) (hs : s ∈ R) (k : PUnit → PR F α) :
    iprop(recs Wt K ∗ Sw Wt c R ∗ (Sw Wt c (R.erase s) -∗ WP c (k ⟨⟩) Q)) ⊢ WP c (swaitP s >>= k) Q := by
  unfold Sw
  rw [sep_out hs, compl_erase hs, sep_in (fun h => Finset.mem_compl.mp h hs)]
  unfold sentCred
  iintro ⟨#HR, ⟨⟨%W, HO⟩, ⟨⟨Hcr, Hat⟩, HV⟩, HZ⟩, Hk⟩
  ihave #HI := (recs_inv Wt K (c, .inr (.inl s))) $$ HR
  iapply (Rounds.wp_wait_rest_token 𝒱₀ ER (rd Wt) (c : Thread nD τ) none (κ := K (c, .inr (.inl s))) (k' := N) (sm := .dma (sendS s))
      (w := .waitDma2 (sendS s) (dstM s) (srcM s) (weMem (.inr s)) (weMem _))
      (fun K' => (wpE_waitDma2_eq 𝒱₀ (c : Thread nD τ) none Set.univ K').trans (by rw [show (srcM s).view.dmaCredit = N from credit_eq (par s)]))
      (Set.mem_univ _) () (O := 0) (W := W) (R := 0) (m := 0) (T := ∅)
      (by rw [Nat.zero_add]; exact (expect_snd Wt c s).symm)) $$ [Hcr HO Hat]
  · isplitr; · iexact HI
    isplitl [Hcr]; · iexact Hcr
    isplitl [HO]; · iexact HO
    isplitr
    · rw [MayWait_zero]; iempintro
    iexact Hat
  iintro ⟨HO, Hat, -, Hpay⟩
  ihave Hp := (Entails.of_eq (rest_snd Wt c s)) $$ Hpay
  imod (Rounds.cell_close ER (rd Wt) (Set.mem_univ (K (c, .inr (.inl s)))) (fun h => h) (R := 0 + 1) (duties_later Wt (sndCell c s))) $$ [Hat] with Hz
  · isplitr; · iexact HI
    iexact Hat
  iapply Hk
  isplitl [HO]; · iexists _; iexact HO
  isplitl [HV]; · iexact HV
  isplitl [Hz Hp]
  · isplitl [Hz]; · iexact Hz
    iexact Hp
  iexact HZ

/-- The last waits, each source once. -/
theorem swaits {α : Type} (Q : α → sProp 𝕄) (k : PUnit → PR F α) :
    ∀ (ss : List Slot), ss.Nodup →
      iprop(recs Wt K ∗ Sw Wt c ss.toFinset ∗ (Sw Wt c ∅ -∗ WP c (k ⟨⟩) Q)) ⊢ WP c (swaitsP ss >>= k) Q
  | [], _ => by
    iintro ⟨-, HS, Hk⟩
    iapply Hk; iexact HS
  | s :: ss, h => by
    show _ ⊢ WP c (swaitP s >>= fun _ => swaitsP ss >>= k) Q
    have hm : s ∈ (s :: ss).toFinset := by simp
    have he : (s :: ss).toFinset.erase s = ss.toFinset := by
      rw [List.toFinset_cons]; exact Finset.erase_insert (fun h' => (List.nodup_cons.mp h).1 (List.mem_toFinset.mp h'))
    iintro ⟨#HR, HS, Hk⟩
    iapply (step_swait Wt K c Q s (s :: ss).toFinset hm fun _ => swaitsP ss >>= k)
    isplitr; · iexact HR
    isplitl [HS]; · iexact HS
    rw [he]
    iintro HS
    iapply (swaits Q k ss (List.nodup_cons.mp h).2)
    isplitr; · iexact HR
    isplitl [HS]; · iexact HS
    iexact Hk

end

end Cert.KernelIdeal.Moe
-- ==== Proof.KernelIdeal.Slots.lean ====
module

public import proofs.«01_k».proof.Proof.KernelIdeal.Steps
public import Idealize.ShloMosaic.Lib.Ring

/-! # The buffers cut into slots, and joined again -/

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

/-! ## The rectangles of a buffer's slots are apart and cover it -/

/-- The elements of a squeezed slice of a whole buffer are the rectangle's. -/
theorem set_squeezed {s' : Shape} (b : Ref sig .tc) (r : Rect b.ty.shape) (hr : ∀ a, r.stride a = 1) (hq : r.shape.Squeezes s') :
    (((Memref.whole b).slice r hr).squeeze s' hq).view.set = r.set :=
  ((View.set_reshape (v := (Memref.whole b).view.slice r) hq.numel_eq).trans (View.set_slice (Memref.whole b).view r)).trans Finset.map_refl

theorem pair_disj : ∀ x x' : Fin 2, x ≠ x' → Disjoint (rPair x).set (rPair x').set := by
  intro x x' h
  rw [Finset.disjoint_left]
  intro i hi hi'
  have h0 := Rect.mem_set_unit.mp hi 0
  have h0' := Rect.mem_set_unit.mp hi' 0
  simp at h0 h0'
  exact h (Fin.ext (by omega))

theorem pair_cover : Finset.univ.biUnion (fun x : Fin 2 => (rPair x).set) = Finset.univ := by
  ext i
  simp only [Finset.mem_biUnion, Finset.mem_univ, _root_.true_and, iff_true]
  have h0 := (i 0).isLt; have h1 := (i 1).isLt; have h2 := (i 2).isLt
  refine ⟨⟨(i 0).val, h0⟩, Rect.mem_set_unit.mpr fun a => ?_⟩
  fin_cases a
  · exact ⟨le_refl _, Nat.lt_succ_self _⟩
  · exact ⟨Nat.zero_le _, by simpa using h1⟩
  · exact ⟨Nat.zero_le _, by simpa using h2⟩

theorem cw_disj : ∀ p p' : Fin 8 × Fin 4, p ≠ p' → Disjoint (rCw p.1 p.2).set (rCw p'.1 p'.2).set := by
  intro p p' h
  rw [Finset.disjoint_left]
  intro i hi hi'
  have h0 := Rect.mem_set_unit.mp hi 0
  have h0' := Rect.mem_set_unit.mp hi' 0
  have h1 := Rect.mem_set_unit.mp hi 1
  have h1' := Rect.mem_set_unit.mp hi' 1
  simp at h0 h0' h1 h1'
  exact h (Prod.ext (Fin.ext (by omega)) (Fin.ext (by omega)))

theorem cw_cover : Finset.univ.biUnion (fun p : Fin 8 × Fin 4 => (rCw p.1 p.2).set) = Finset.univ := by
  ext i
  simp only [Finset.mem_biUnion, Finset.mem_univ, _root_.true_and, iff_true]
  have h0 := (i 0).isLt; have h1 := (i 1).isLt; have h2 := (i 2).isLt; have h3 := (i 3).isLt
  refine ⟨(⟨(i 0).val, h0⟩, ⟨(i 1).val, h1⟩), Rect.mem_set_unit.mpr fun a => ?_⟩
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

theorem ccw_disj : ∀ p p' : Fin 7 × Fin 4, p ≠ p' → Disjoint (rCcw p.1 p.2).set (rCcw p'.1 p'.2).set := by
  intro p p' h
  rw [Finset.disjoint_left]
  intro i hi hi'
  have h0 := Rect.mem_set_unit.mp hi 0
  have h0' := Rect.mem_set_unit.mp hi' 0
  have h1 := Rect.mem_set_unit.mp hi 1
  have h1' := Rect.mem_set_unit.mp hi' 1
  simp at h0 h0' h1 h1'
  exact h (Prod.ext (Fin.ext (by omega)) (Fin.ext (by omega)))

theorem ccw_cover : Finset.univ.biUnion (fun p : Fin 7 × Fin 4 => (rCcw p.1 p.2).set) = Finset.univ := by
  ext i
  simp only [Finset.mem_biUnion, Finset.mem_univ, _root_.true_and, iff_true]
  have h0 := (i 0).isLt; have h1 := (i 1).isLt; have h2 := (i 2).isLt; have h3 := (i 3).isLt
  refine ⟨(⟨(i 0).val, h0⟩, ⟨(i 1).val, h1⟩), Rect.mem_set_unit.mpr fun a => ?_⟩
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

section
variable {F : FTy → Type} [FloatOps F]

local notation "𝕄" => MT nD τ sig Unit (Elt F) ℕ UU ℕ

/-- A buffer of a device held whole, at contents nobody knows. -/
abbrev anyB (c : Dev nD) (b : Ref sig .tc) : sProp 𝕄 :=
  iprop(∃ f : Buf (Elt F) ((c : Thread nD τ).loc b), ((c : Thread nD τ).loc b) ↦{fullShare} f)

/-- Part of a buffer of a device, at contents nobody knows. -/
abbrev anyOn (c : Dev nD) (b : Ref sig .tc) (S : Finset b.ty.Idx) : sProp 𝕄 :=
  iprop(∃ f : Buf (Elt F) ((c : Thread nD τ).loc b), ((c : Thread nD τ).loc b) ↦[S]{fullShare} f)

omit [FloatOps F] in
/-- A buffer cut into parts. -/
theorem any_cut {I : Type} [Fintype I] [DecidableEq I] (c : Dev nD) (b : Ref sig .tc) (S : I → Finset b.ty.Idx)
    (hd : ∀ i j, i ≠ j → Disjoint (S i) (S j)) (hc : Finset.univ.biUnion S = Finset.univ) :
    (anyB c b : sProp 𝕄) ⊢ bigSep Finset.univ fun i => anyOn c b (S i) := by
  have h (f : Buf (Elt F) ((c : Thread nD τ).loc b)) :
      ((c : Thread nD τ).loc b ↦{fullShare} f : sProp 𝕄) ⊢ bigSep Finset.univ fun i => anyOn c b (S i) := by
    rw [pointsTo_blocks (ℓ := (c : Thread nD τ).loc b) S hd hc f]
    refine bigSep_mono fun i _ => ?_
    show ((c : Thread nD τ).loc b ↦[S i]{fullShare} f : sProp 𝕄) ⊢ anyOn c b (S i)
    iintro H; iexists f; iexact H
  iintro ⟨%f, H⟩
  iapply (h f); iexact H

omit [FloatOps F] in
/-- Its parts joined. -/
theorem any_join {I : Type} [Fintype I] [DecidableEq I] (c : Dev nD) (b : Ref sig .tc) (S : I → Finset b.ty.Idx)
    (hd : ∀ i j, i ≠ j → Disjoint (S i) (S j)) (hc : Finset.univ.biUnion S = Finset.univ) (f₀ : Buf (Elt F) ((c : Thread nD τ).loc b)) :
    (bigSep Finset.univ fun i => anyOn c b (S i)) ⊢ (anyB c b : sProp 𝕄) :=
  pointsTo_blocks_join_exists (ℓ := (c : Thread nD τ).loc b) S hd hc f₀

omit [FloatOps F] in
theorem free_xp (c : Dev nD) (x : Fin 2) : (free c (.xp x) : sProp 𝕄) = anyOn c cc0_scratch1 (rPair x).set := by
  unfold free anyOn
  rw [show (dstM (.xp x)).view.set = (rPair x).set from set_squeezed cc0_scratch1 (rPair x) (fun _ => rfl) squeezes_S1x256x512_S256x512]
  rfl
omit [FloatOps F] in
theorem free_cw (c : Dev nD) (p : Fin 8 × Fin 4) : (free c (.cw p.1 p.2) : sProp 𝕄) = anyOn c cc0_scratch2 (rCw p.1 p.2).set := by
  unfold free anyOn
  rw [show (dstM (.cw p.1 p.2)).view.set = (rCw p.1 p.2).set from set_squeezed cc0_scratch2 (rCw p.1 p.2) (fun _ => rfl) squeezes_S1x1x256x512_S256x512]
  rfl
omit [FloatOps F] in
theorem free_ccw (c : Dev nD) (p : Fin 7 × Fin 4) : (free c (.ccw p.1 p.2) : sProp 𝕄) = anyOn c cc0_scratch3 (rCcw p.1 p.2).set := by
  unfold free anyOn
  rw [show (dstM (.ccw p.1 p.2)).view.set = (rCcw p.1 p.2).set from set_squeezed cc0_scratch3 (rCcw p.1 p.2) (fun _ => rfl) squeezes_S1x1x256x512_S256x512]
  rfl

omit [FloatOps F] in
/-- The slots by buffer. -/
theorem slots_by_buffer (Φ : Slot → sProp 𝕄) : bigSep Finset.univ Φ
    = iprop((bigSep Finset.univ fun x : Fin 2 => Φ (.xp x)) ∗ (bigSep Finset.univ fun p : Fin 8 × Fin 4 => Φ (.cw p.1 p.2))
        ∗ bigSep Finset.univ fun p : Fin 7 × Fin 4 => Φ (.ccw p.1 p.2)) := by
  rw [bigSep_univ_equiv slotEquiv, bigSep_univ_sum, bigSep_univ_sum]; rfl

omit [FloatOps F] in
/-- The three landing buffers cut into their slots. -/
theorem slots_cut (c : Dev nD) : iprop(anyB c cc0_scratch1 ∗ anyB c cc0_scratch2 ∗ anyB c cc0_scratch3)
    ⊢ (bigSep Finset.univ fun s : Slot => free c s : sProp 𝕄) := by
  rw [slots_by_buffer, bigSep_congr (fun x _ => free_xp c x), bigSep_congr (fun p _ => free_cw c p), bigSep_congr (fun p _ => free_ccw c p)]
  iintro ⟨H1, H2, H3⟩
  isplitl [H1]; · iapply (any_cut c cc0_scratch1 (fun x : Fin 2 => (rPair x).set) pair_disj pair_cover); iexact H1
  isplitl [H2]; · iapply (any_cut c cc0_scratch2 (fun p : Fin 8 × Fin 4 => (rCw p.1 p.2).set) cw_disj cw_cover); iexact H2
  iapply (any_cut c cc0_scratch3 (fun p : Fin 7 × Fin 4 => (rCcw p.1 p.2).set) ccw_disj ccw_cover); iexact H3

/-- Contents for a buffer. -/
def f₀ (c : Dev nD) (b : Ref sig .tc) : Buf (Elt F) ((c : Thread nD τ).loc b) := Classical.arbitrary _

/-- The slots joined to the three landing buffers. -/
theorem slots_join (c : Dev nD) : (bigSep Finset.univ fun s : Slot => free c s : sProp 𝕄)
    ⊢ iprop(anyB c cc0_scratch1 ∗ anyB c cc0_scratch2 ∗ anyB c cc0_scratch3) := by
  rw [slots_by_buffer, bigSep_congr (fun x _ => free_xp c x), bigSep_congr (fun p _ => free_cw c p), bigSep_congr (fun p _ => free_ccw c p)]
  iintro ⟨H1, H2, H3⟩
  isplitl [H1]; · iapply (any_join c cc0_scratch1 (fun x : Fin 2 => (rPair x).set) pair_disj pair_cover (f₀ c _)); iexact H1
  isplitl [H2]; · iapply (any_join c cc0_scratch2 (fun p : Fin 8 × Fin 4 => (rCw p.1 p.2).set) cw_disj cw_cover (f₀ c _)); iexact H2
  iapply (any_join c cc0_scratch3 (fun p : Fin 7 × Fin 4 => (rCcw p.1 p.2).set) ccw_disj ccw_cover (f₀ c _)); iexact H3

/-- A slice of the expert weights a device holds. -/
def sliceOf (ew : (cc0_scratch0 : Ref sig .tc).ty.Contents (Elt F)) (x : Fin 2) : Sl F := (pairM x).view.read (Elt F) ew

omit [FloatOps F] in
theorem pair_loc (c : Dev nD) (x : Fin 2) (f : Buf (Elt F) ((c : Thread nD τ).loc cc0_scratch0)) :
    ((pairM x).view.loc (c : Thread nD τ) ↦[(pairM x).view.set]{fullShare} f : sProp 𝕄)
      = ((c : Thread nD τ).loc cc0_scratch0 ↦[(rPair x).set]{fullShare} f) := by
  rw [show (pairM x).view.set = (rPair x).set from set_squeezed cc0_scratch0 (rPair x) (fun _ => rfl) squeezes_S1x256x512_S256x512]

omit [FloatOps F] in
/-- The buffer of the device's own slices cut in two. -/
theorem pair_cut (Wt : Dev nD → Fin 2 → Sl F) (c : Dev nD) (ew : (cc0_scratch0 : Ref sig .tc).ty.Contents (Elt F)) (hW : ∀ x, Wt c x = sliceOf ew x) :
    ((c : Thread nD τ).loc cc0_scratch0 ↦{fullShare} ew : sProp 𝕄) ⊢ bigSep Finset.univ fun x : Fin 2 => has Wt c (.inl x) fullShare := by
  rw [pointsTo_blocks (ℓ := (c : Thread nD τ).loc cc0_scratch0) (fun x : Fin 2 => (rPair x).set) pair_disj pair_cover ew]
  refine bigSep_mono fun x _ => ?_
  show ((c : Thread nD τ).loc cc0_scratch0 ↦[(rPair x).set]{fullShare} ew : sProp 𝕄) ⊢ has Wt c (.inl x) fullShare
  unfold has owns
  iintro H
  iexists ew
  isplitr; · ipureintro; exact (hW x).symm
  iapply (Entails.of_eq (pair_loc c x ew).symm); iexact H

/-- The device's own slices joined. -/
theorem pair_join (Wt : Dev nD → Fin 2 → Sl F) (c : Dev nD) :
    (bigSep Finset.univ fun x : Fin 2 => has Wt c (.inl x) fullShare) ⊢ (anyB c cc0_scratch0 : sProp 𝕄) := by
  refine BI.Entails.trans (bigSep_mono (Ψ := fun x : Fin 2 => anyOn c cc0_scratch0 (rPair x).set) fun x _ => ?_)
    (any_join c cc0_scratch0 (fun x : Fin 2 => (rPair x).set) pair_disj pair_cover (f₀ c _))
  show has Wt c (.inl x) fullShare ⊢ anyOn c cc0_scratch0 (rPair x).set
  unfold has owns
  iintro ⟨%f, -, H⟩
  iexists f
  iapply (Entails.of_eq (pair_loc c x f)); iexact H

omit [FloatOps F] in
/-- A slot at its contents is a slot at some contents. -/
theorem has_free (Wt : Dev nD → Fin 2 → Sl F) (c : Dev nD) (s : Slot) : has Wt c (.inr s) fullShare ⊢ (free c s : sProp 𝕄) := by
  unfold has owns free
  iintro ⟨%f, -, H⟩
  iexists f; iexact H

omit [FloatOps F] in
/-- The quarters of every source. -/
theorem all_quarters (Wt : Dev nD → Fin 2 → Sl F) (c : Dev nD) :
    (bigSep Finset.univ fun pj : (Fin 2 ⊕ Slot) × Fin 4 => (has Wt c pj.1 (qs pj.2) : sProp 𝕄))
      = iprop((bigSep Finset.univ fun x : Fin 2 => has Wt c (.inl x) fullShare) ∗ bigSep Finset.univ fun s : Slot => has Wt c (.inr s) fullShare) := by
  rw [bigSep_univ_prod]
  rw [bigSep_congr (fun p _ => (has_quarters Wt c p).symm)]
  rw [bigSep_univ_sum]; rfl

/-- The quarters lent for the copies. -/
def lentE : Slot ↪ (Fin 2 ⊕ Slot) × Fin 4 := ⟨lent, fun a b h => lent_inj h⟩

theorem lent_hand : Disjoint (Finset.univ.map lentE) (hand ∅ ∅) := by
  rw [Finset.disjoint_left]
  intro pj h h'
  obtain ⟨s, -, rfl⟩ := Finset.mem_map.mp h
  exact absurd ((mem_hand.mp h').2 s rfl) (Finset.notMem_empty s)

theorem lent_union : Finset.univ.map lentE ∪ hand ∅ ∅ = Finset.univ := by
  ext ⟨p, j⟩
  simp only [Finset.mem_union, Finset.mem_univ, iff_true]
  by_cases h : ∃ s, lent s = (p, j)
  · obtain ⟨s, hs⟩ := h
    exact .inl (Finset.mem_map.mpr ⟨s, Finset.mem_univ s, hs⟩)
  · refine .inr (mem_hand.mpr ⟨?_, fun s hs => absurd ⟨s, hs⟩ h⟩)
    cases p with
    | inl x => trivial
    | inr s => exact Finset.notMem_empty s

omit [FloatOps F] in
/-- What was lent and what stayed in hand are every source's quarters. -/
theorem quarters_back (Wt : Dev nD → Fin 2 → Sl F) (c : Dev nD) :
    iprop((bigSep Finset.univ fun s : Slot => has Wt c (par s) (qs (kq s))) ∗ bigSep (hand ∅ ∅) fun pj => has Wt c pj.1 (qs pj.2))
      ⊢ (bigSep Finset.univ fun pj : (Fin 2 ⊕ Slot) × Fin 4 => has Wt c pj.1 (qs pj.2) : sProp 𝕄) := by
  rw [← lent_union, sep_two lent_hand, bigSep_map]
  exact BI.Entails.refl _

omit [FloatOps F] in
/-- Before anything is sent or received the quarters in hand are those of the device's own slices. -/
theorem hand_start (Wt : Dev nD → Fin 2 → Sl F) (c : Dev nD) :
    (bigSep (hand Finset.univ Finset.univ) fun pj => (has Wt c pj.1 (qs pj.2) : sProp 𝕄))
      = bigSep Finset.univ fun x : Fin 2 => has Wt c (.inl x) fullShare := by
  have h : hand Finset.univ Finset.univ
      = (Finset.univ : Finset (Fin 2 × Fin 4)).map ⟨fun xj => ((.inl xj.1 : Fin 2 ⊕ Slot), xj.2), fun a b h => by
          simp only [Prod.mk.injEq, Sum.inl.injEq] at h; exact Prod.ext h.1 h.2⟩ := by
    ext ⟨p, j⟩
    rw [mem_hand, Finset.mem_map]
    constructor
    · rintro ⟨h, -⟩
      cases p with
      | inl x => exact ⟨(x, j), Finset.mem_univ _, rfl⟩
      | inr s => exact absurd (Finset.mem_univ s) h
    · rintro ⟨⟨x, j'⟩, -, h⟩
      have h1 : (.inl x : Fin 2 ⊕ Slot) = p := congrArg Prod.fst h
      subst h1
      exact ⟨trivial, fun s _ => Finset.mem_univ s⟩
  rw [h, bigSep_map, bigSep_univ_prod]
  exact bigSep_congr fun x _ => (has_quarters Wt c (.inl x)).symm

omit [FloatOps F] in
/-- The slots by the neighbour that a device's slots of that class are written by. -/
theorem by_class (Φ : Slot → sProp 𝕄) : bigSep Finset.univ Φ
    = iprop(bigSep (Finset.univ.filter fun s => cls s = 0) Φ ∗ bigSep (Finset.univ.filter fun s => cls s = 1) Φ
        ∗ bigSep (Finset.univ.filter fun s => cls s = 2) Φ) := by
  have h : (Finset.univ : Finset Slot) = (Finset.univ.filter fun s => cls s = 0)
      ∪ ((Finset.univ.filter fun s => cls s = 1) ∪ Finset.univ.filter fun s => cls s = 2) := by
    ext s
    simp only [Finset.mem_union, Finset.mem_filter, Finset.mem_univ, _root_.true_and]
    cases s <;> simp [cls]
  have d : ∀ i j : Fin 3, i ≠ j → Disjoint (Finset.univ.filter fun s : Slot => cls s = i) (Finset.univ.filter fun s => cls s = j) := by
    intro i j hij
    rw [Finset.disjoint_left]
    intro s hs hs'
    simp only [Finset.mem_filter, Finset.mem_univ, _root_.true_and] at hs hs'
    exact hij (hs.symm.trans hs')
  conv_lhs => rw [h]
  rw [sep_two (Finset.disjoint_union_right.mpr ⟨d 0 1 (by decide), d 0 2 (by decide)⟩), sep_two (d 1 2 (by decide))]

omit [FloatOps F] in
/-- A device's own slots are what its three neighbours' barriers are paid with. -/
theorem own_slots (c : Dev nD) : (bigSep Finset.univ fun s : Slot => (free c s : sProp 𝕄))
    = iprop(barPay (nxt c) 0 ∗ barPay (prv c) 1 ∗ barPay (prt c) 2) := by
  have e : ∀ (d : Dev nD) (j : Fin 3), (∀ s, cls s = j → tgt s d = c) →
      (bigSep (Finset.univ.filter fun s => cls s = j) fun s => (free c s : sProp 𝕄)) = barPay d j := by
    intro d j h
    unfold barPay
    exact bigSep_congr fun s hs => by rw [h s (Finset.mem_filter.mp hs).2]
  rw [by_class, e (nxt c) 0 ?_, e (prv c) 1 ?_, e (prt c) 2 ?_]
  · intro s h; cases s <;> simp [cls] at h; exact prt_prt c
  · intro s h; cases s <;> simp [cls] at h; exact nxt_prv c
  · intro s h; cases s <;> simp [cls] at h; exact prv_nxt c

end

end Cert.KernelIdeal.Moe
-- ==== Proof.KernelIdeal.Body.lean ====
module

public import proofs.«01_k».proof.Proof.KernelIdeal.Slots

/-! # A device's whole body -/

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The two stretches of events -/

theorem inOrder_append : ∀ (a b : List Ev) (U V : Finset Slot), inOrder (a ++ b) U V → inOrder a U V ∧ inOrder b (unsent a U) (unreceived a V)
  | [], b, U, V, h => ⟨trivial, h⟩
  | .send s :: a, b, U, V, h => ⟨⟨h.1, h.2.1, (inOrder_append a b _ _ h.2.2).1⟩, (inOrder_append a b _ _ h.2.2).2⟩
  | .recv s :: a, b, U, V, h => ⟨⟨h.1, h.2.1, h.2.2.1, (inOrder_append a b _ _ h.2.2.2).1⟩, (inOrder_append a b _ _ h.2.2.2).2⟩
  | .use s :: a, b, U, V, h => ⟨⟨h.1, (inOrder_append a b _ _ h.2).1⟩, (inOrder_append a b _ _ h.2).2⟩

theorem unsent_append : ∀ (a b : List Ev) (U : Finset Slot), unsent (a ++ b) U = unsent b (unsent a U)
  | [], _, _ => rfl
  | .send _ :: a, b, U => unsent_append a b _
  | .recv _ :: a, b, U => unsent_append a b _
  | .use _ :: a, b, U => unsent_append a b _

/-- The copies still to be sent when the relay starts. -/
def U₁ : Finset Slot := unsent (sends0.map Ev.send) Finset.univ

theorem order₀ : inOrder (sends0.map Ev.send) Finset.univ Finset.univ := (inOrder_append _ _ _ _ inOrder_all).1
theorem order₁ : inOrder evs U₁ Finset.univ := (inOrder_append _ _ _ _ inOrder_all).2
theorem unsent₁ : unsent evs U₁ = ∅ := (unsent_append _ _ _).symm.trans unsent_all
theorem unreceived₁ : unreceived evs Finset.univ = ∅ := unreceived_all

section
variable {F : FTy → Type} [FloatOps F]

local notation "𝕄" => MT nD τ sig Unit (Elt F) ℕ UU ℕ

/-! ## Contents -/

/-- The first column of the chosen experts. -/
def col0 (idx : (cc0_stg2_0 : Ref sig .tc).ty.Contents (Elt F)) : Vec F S512x1 .i32 :=
  (Memref.whole cc0_stg2_0 : Memref sig .tc .vmem S512x2 .i32).view.readAt (Elt F) (Rect.unit (s := S512x2) ![0, 0] S512x1.size inb_S512x2_S512x1_0_0).toLoadRect idx
/-- The second column of the chosen experts. -/
def col1 (idx : (cc0_stg2_0 : Ref sig .tc).ty.Contents (Elt F)) : Vec F S512x1 .i32 :=
  (Memref.whole cc0_stg2_0 : Memref sig .tc .vmem S512x2 .i32).view.readAt (Elt F) (Rect.unit (s := S512x2) ![0, 1] S512x1.size inb_S512x2_S512x1_0_1).toLoadRect idx

/-- The gates a device computes. -/
def gatesOf (x : (cc0_stg0_0 : Ref sig .tc).ty.Contents (Elt F)) (rw : (cc0_stg1_0 : Ref sig .tc).ty.Contents (Elt F))
    (idx : (cc0_stg2_0 : Ref sig .tc).ty.Contents (Elt F)) : FVec F S512x64 .f32 := k0_pay3 (k0_pay2 x) rw (col0 idx) (col1 idx)

/-- A device's result. -/
def outOf (Wt : Dev nD → Fin 2 → Sl F) (c : Dev nD) (x : (cc0_stg0_0 : Ref sig .tc).ty.Contents (Elt F)) (rw : (cc0_stg1_0 : Ref sig .tc).ty.Contents (Elt F))
    (idx : (cc0_stg2_0 : Ref sig .tc).ty.Contents (Elt F)) : FVec F S512x512 .f32 :=
  accAfter Wt c (k0_pay2 x) (gatesOf x rw idx) evs
    (addTerm (k0_pay2 x) (gatesOf x rw idx) (myW c) 1#32 (Wt c 1) (addTerm (k0_pay2 x) (gatesOf x rw idx) (myW c) 0#32 (Wt c 0) (k0_pay4 (F := F))))

theorem hz2 : (![0, 0] : Fin 2 → Nat) = fun _ => 0 := funext fun a => by fin_cases a <;> rfl
theorem hz3 : (![0, 0, 0] : Fin 3 → Nat) = fun _ => 0 := funext fun a => by fin_cases a <;> rfl

/-! Loads and stores of whole buffers. -/

omit [FloatOps F] in
theorem rd_x (f : (cc0_stg0_0 : Ref sig .tc).ty.Contents (Elt F)) : (Memref.whole cc0_stg0_0 : Memref sig .tc .vmem S512x256 .bf16).view.readAt (Elt F) (Rect.unit (s := S512x256) ![0, 0] S512x256.size inb_S512x256_S512x256_0_0).toLoadRect f = f :=
  Memref.readAt_unit_zero (Elt F) cc0_stg0_0 hz2 _ f
omit [FloatOps F] in
theorem rd_rw (f : (cc0_stg1_0 : Ref sig .tc).ty.Contents (Elt F)) : (Memref.whole cc0_stg1_0 : Memref sig .tc .vmem S256x64 .bf16).view.readAt (Elt F) (Rect.unit (s := S256x64) ![0, 0] S256x64.size inb_S256x64_S256x64_0_0).toLoadRect f = f :=
  Memref.readAt_unit_zero (Elt F) cc0_stg1_0 hz2 _ f
omit [FloatOps F] in
theorem rd_ew (f : (cc0_stg3_0 : Ref sig .tc).ty.Contents (Elt F)) : (Memref.whole cc0_stg3_0 : Memref sig .tc .vmem S2x256x512 .bf16).view.readAt (Elt F) (Rect.unit (s := S2x256x512) ![0, 0, 0] S2x256x512.size inb_S2x256x512_S2x256x512_0_0_0).toLoadRect f = f :=
  Memref.readAt_unit_zero (Elt F) cc0_stg3_0 hz3 _ f
omit [FloatOps F] in
theorem wr_pair (f w : (cc0_scratch0 : Ref sig .tc).ty.Contents (Elt F)) :
    ((Memref.whole cc0_scratch0 : Memref sig .tc .vmem S2x256x512 .bf16).access (Rect.unit (s := S2x256x512) ![0, 0, 0] S2x256x512.size inb_S2x256x512_S2x256x512_0_0_0) : View sig .tc _ _ _).write (Elt F) f w Finset.univ = w :=
  Memref.write_access_unit_zero_univ (Elt F) cc0_scratch0 hz3 _ f w
omit [FloatOps F] in
theorem wr_out (f w : (cc0_stg4_0 : Ref sig .tc).ty.Contents (Elt F)) :
    ((Memref.whole cc0_stg4_0 : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_stg4_0 hz2 _ f w

/-! ## What a device starts from and ends with -/

/-- A device's positions, credits and tokens. -/
def own0 (c : Dev nD) : sProp 𝕄 :=
  iprop(atPos ER (barCell c) 0 ∅ 0 ∗ cred (tallyAt (barCell c) () 3)
    ∗ (dutyTok ER (barCell (nxt c)) 0 0 ∗ dutyTok ER (barCell (prv c)) 0 1 ∗ dutyTok ER (barCell (prt c)) 0 2)
    ∗ (bigSep Finset.univ fun s : Slot => iprop(dutyTok ER (sndCell c s) 0 0 ∗ dutyTok ER (rcvCell (tgt s c) s) 0 0))
    ∗ (bigSep Finset.univ (toRecv c)) ∗ bigSep Finset.univ fun s : Slot => atPos ER (sndCell c s) 0 ∅ 0)

/-- A device's buffers with contents nobody reads. -/
def bufs (c : Dev nD) : sProp 𝕄 := iprop(anyB c cc0_scratch0 ∗ bigSep Finset.univ fun s : Slot => free c s)

def Φ₀ (Wt : Dev nD → Fin 2 → Sl F) (c : Dev nD) : sProp 𝕄 := iprop((∃ K, recs Wt K) ∗ own0 c ∗ bufs c)
def Φ₁ (c : Dev nD) : sProp 𝕄 :=
  iprop(bufs c ∗ (bigSep Finset.univ fun s : Slot => semVal (sndCell c s) 0) ∗ (bigSep Finset.univ fun s : Slot => semVal (rcvCell c s) 0) ∗ semVal (barCell c) 0)

/-- A staging buffer at its contents. -/
abbrev stg (c : Dev nD) (b : Ref sig .tc) (X : b.ty.Contents (Elt F)) : sProp 𝕄 := iprop(((c : Thread nD τ).loc b) ↦{fullShare} X)

variable (Wt : Dev nD → Fin 2 → Sl F) (K : Dev nD × CK → ℕ) (c : Dev nD)

omit [FloatOps F] in
theorem mayWait_bar : recs Wt K ⊢ MayWait (c : Thread nD τ) (.reg bar) () (owedR c Finset.univ) := by
  unfold recs; iintro ⟨-, -, H⟩
  iapply (mayWait_owedR c (.reg bar) 1 (le_of_eq (lv_bar c)) Finset.univ (fun s _ => lvl_pos s))
  iexact H

omit [FloatOps F] in
/-- Each copy's slot and tokens. -/
theorem toSend_all : iprop((bigSep Finset.univ fun s : Slot => free (tgt s c) s)
      ∗ bigSep Finset.univ fun s : Slot => iprop(dutyTok ER (sndCell c s) 0 0 ∗ dutyTok ER (rcvCell (tgt s c) s) 0 0))
    = (bigSep Finset.univ (toSend c) : sProp 𝕄) := (bigSep_sep' _ _ _).symm

omit [FloatOps F] in
theorem owedR_empty : owedR c ∅ = 0 := Finset.sum_empty

/-- The holdings when the relay starts. -/
theorem st_intro (W : Waits sig Unit) :
    iprop(owes (c : Thread nD τ) (owedR c Finset.univ) W ∗ bigSep Finset.univ (toSend c) ∗ bigSep Finset.univ (toRecv c)
        ∗ bigSep Finset.univ fun x : Fin 2 => has Wt c (.inl x) fullShare) ⊢ St Wt c Finset.univ Finset.univ := by
  unfold St
  rw [hand_start, Finset.compl_univ, bigSep_empty, bigSep_empty]
  iintro ⟨HO, HU, HV, HH⟩
  isplitl [HO]; · iexists W; iexact HO
  isplitl [HU]; · iexact HU
  isplitr; · iempintro
  isplitl [HV]; · iexact HV
  isplitr; · iempintro
  iexact HH

/-- From the relay's end to the last waits. -/
theorem st_exit : iprop(St Wt c ∅ ∅ ∗ bigSep Finset.univ fun s : Slot => atPos ER (sndCell c s) 0 ∅ 0)
    ⊢ iprop(Sw Wt c order.toFinset ∗ (bigSep Finset.univ fun s : Slot => semVal (rcvCell c s) 0)
        ∗ bigSep (hand ∅ ∅) fun pj => has Wt c pj.1 (qs pj.2)) := by
  unfold St Sw
  rw [order_all, owedR_empty, Finset.compl_empty, Finset.compl_univ, bigSep_empty, bigSep_empty, bigSep_empty, bigSep_sep']
  iintro ⟨⟨HO, -, HC, -, HZ, HH⟩, HA⟩
  isplitl [HO HC HA]
  · isplitl [HO]; · iexact HO
    isplitl [HC HA]
    · isplitl [HC]; · iexact HC
      iexact HA
    iempintro
  isplitl [HZ]; · iexact HZ
  iexact HH

omit [FloatOps F] in
theorem has_free_all : (bigSep Finset.univ fun s : Slot => has Wt c (.inr s) fullShare) ⊢ (bigSep Finset.univ fun s : Slot => free c s : sProp 𝕄) :=
  bigSep_mono fun s _ => has_free Wt c s

/-- From the end of the last waits to the buffers. -/
theorem sw_exit : iprop(Sw Wt c ∅ ∗ bigSep (hand ∅ ∅) fun pj => has Wt c pj.1 (qs pj.2))
    ⊢ iprop((∃ W, owes (c : Thread nD τ) 0 W) ∗ bufs c ∗ bigSep Finset.univ fun s : Slot => semVal (sndCell c s) 0) := by
  unfold Sw bufs
  rw [Finset.compl_empty, bigSep_empty, bigSep_sep']
  iintro ⟨⟨HO, -, HZ, HL⟩, HH⟩
  ihave H := (quarters_back Wt c) $$ [HL HH]
  · isplitl [HL]; · iexact HL
    iexact HH
  ihave H := (Entails.of_eq (all_quarters Wt c)) $$ H
  icases H with ⟨H0, H1⟩
  isplitl [HO]; · iexact HO
  isplitl [H0 H1]
  · isplitl [H0]; · iapply (pair_join Wt c); iexact H0
    iapply (has_free_all Wt c); iexact H1
  iexact HZ

/-- A finished program. -/
theorem wp_done (Q : PUnit → sProp 𝕄) : Q ⟨⟩ ⊢ WP c (.ret ⟨⟩) Q := by
  unfold WP; rw [wp_ret]; iintro H; imodintro; iexact H

variable (x : (cc0_stg0_0 : Ref sig .tc).ty.Contents (Elt F)) (rw : (cc0_stg1_0 : Ref sig .tc).ty.Contents (Elt F))
  (idx : (cc0_stg2_0 : Ref sig .tc).ty.Contents (Elt F)) (ew : (cc0_stg3_0 : Ref sig .tc).ty.Contents (Elt F))

/-- What the body starts from. -/
def bodyPre : sProp 𝕄 :=
  iprop(recs Wt K ∗ own0 c ∗ bufs c ∗ (∃ W, owes (c : Thread nD τ) (O₀ c) W)
    ∗ stg c cc0_stg0_0 x ∗ stg c cc0_stg1_0 rw ∗ stg c cc0_stg2_0 idx ∗ stg c cc0_stg3_0 ew ∗ anyB c cc0_stg4_0)

/-- What it ends with. -/
def bodyPost : sProp 𝕄 :=
  iprop(Φ₁ c ∗ (∃ W, owes (c : Thread nD τ) 0 W)
    ∗ stg c cc0_stg0_0 x ∗ stg c cc0_stg1_0 rw ∗ stg c cc0_stg2_0 idx ∗ stg c cc0_stg3_0 ew ∗ stg c cc0_stg4_0 (outOf Wt c x rw idx))

set_option maxHeartbeats 1000000 in
/-- The body, run from what a device starts from, ends with the device's result in its staging buffer. -/
theorem sound_body (hW : ∀ y, Wt c y = sliceOf (k0_pay1 ew) y) (Q : PUnit → sProp 𝕄) :
    iprop(bodyPre Wt K c x rw idx ew ∗ (bodyPost Wt c x rw idx ew -∗ Q ⟨⟩)) ⊢ WP c (body F) Q := by
  unfold body
  rw [show (swaitsP order : PR F PUnit) = swaitsP order >>= pure from (bind_pure _).symm]
  simp only [semSignalWord, semWaitWord, Prog.lift, Prog.bind_op, Prog.bind_ret, Prog.pure_eq_ret, wp_deviceId]
  unfold bodyPre own0 bufs
  rw [own_slots]
  iintro ⟨⟨#HR, ⟨HatB, HcB, ⟨HtN, HtP, HtT⟩, Htok, HV, HA⟩, ⟨⟨%f0, Hs0⟩, HpN, HpP, HpT⟩, ⟨%W, HO⟩, Hx, Hrw, Hidx, Hew, ⟨%f4, Hout⟩⟩, Hk⟩
  unfold O₀
  ihave #HIN := (recs_inv Wt K (nxt c, .inl ())) $$ HR
  ihave #HIP := (recs_inv Wt K (prv c, .inl ())) $$ HR
  ihave #HIT := (recs_inv Wt K (prt c, .inl ())) $$ HR
  ihave #HIB := (recs_inv Wt K (c, .inl ())) $$ HR
  ihave #HRN := (recs_reached Wt K (nxt c, .inl ())) $$ HR
  ihave #HRP := (recs_reached Wt K (prv c, .inl ())) $$ HR
  ihave #HRT := (recs_reached Wt K (prt c, .inl ())) $$ HR
  iapply (Rounds.wp_signal 𝒱₀ ER (rd Wt) (c : Thread nD τ) none (dst := (nxt c : Thread nD τ)) (κ := K (nxt c, .inl ()))
      (d := 0) (by rw [duties_bar]; exact Finset.mem_univ _) rfl () _ rfl) $$ [HO HtN HpN]
  · isplitr; · iexact HIN
    isplitl [HO]; · iexact HO
    isplitl [HtN]; · iexact HtN
    isplitl [HpN]; · rw [payload_bar]; iexact HpN
    iexact HRN
  iintro HO
  iapply (Rounds.wp_signal 𝒱₀ ER (rd Wt) (c : Thread nD τ) none (dst := (prv c : Thread nD τ)) (κ := K (prv c, .inl ()))
      (d := 1) (by rw [duties_bar]; exact Finset.mem_univ _) rfl () _ rfl) $$ [HO HtP HpP]
  · isplitr; · iexact HIP
    isplitl [HO]; · iexact HO
    isplitl [HtP]; · iexact HtP
    isplitl [HpP]; · rw [payload_bar]; iexact HpP
    iexact HRP
  iintro HO
  iapply (Rounds.wp_signal 𝒱₀ ER (rd Wt) (c : Thread nD τ) none (dst := (prt c : Thread nD τ)) (κ := K (prt c, .inl ()))
      (d := 2) (by rw [duties_bar]; exact Finset.mem_univ _) rfl () _ rfl) $$ [HO HtT HpT]
  · isplitr; · iexact HIT
    isplitl [HO]; · iexact HO
    isplitl [HtT]; · iexact HtT
    isplitl [HpT]; · rw [payload_bar]; iexact HpT
    iexact HRT
  iintro HO
  iapply (Rounds.wp_wait_rest_token 𝒱₀ ER (rd Wt) (c : Thread nD τ) none (κ := K (c, .inl ()))
      (wpE_semWait_eq 𝒱₀ (c : Thread nD τ) none Set.univ) (Set.mem_univ _) () (O := owedR c Finset.univ) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar Wt K c); iexact HR
    iexact HatB
  iintro ⟨HO, HatB, -, Hpay⟩
  ihave Hfree := (rest_bar Wt c) $$ Hpay
  imod (Rounds.cell_close ER (rd Wt) (Set.mem_univ (K (c, .inl ()))) (fun h => h) (R := 0 + 1) (duties_later Wt (barCell c))) $$ [HatB] with HzB
  · isplitr; · iexact HIB
    iexact HatB
  iapply (wp_load 𝒱₀ (c : Thread nD τ) none Set.univ (m := Memref.whole cc0_stg3_0) (Finset.subset_univ _)) $$ Hew; iintro Hew
  rw [rd_ew]
  iapply (wp_load 𝒱₀ (c : Thread nD τ) none Set.univ (m := Memref.whole cc0_scratch0) (Finset.subset_univ _)) $$ Hs0; iintro Hs0
  iapply (wp_store 𝒱₀ (c : Thread nD τ) none Set.univ (m := Memref.whole cc0_scratch0) (r := Rect.unit (s := S2x256x512) ![0, 0, 0] S2x256x512.size inb_S2x256x512_S2x256x512_0_0_0) (Mk := Finset.univ) (Finset.subset_univ _)) $$ Hs0; iintro Hs0
  rw [wr_pair]
  ihave Hpair := (pair_cut Wt c (k0_pay1 ew) hW) $$ Hs0
  ihave HU := (Entails.of_eq (toSend_all c)) $$ [Hfree Htok]
  · isplitl [Hfree]; · iexact Hfree
    iexact Htok
  ihave HS := (st_intro Wt c _) $$ [HO HU HV Hpair]
  · isplitl [HO]; · iexact HO
    isplitl [HU]; · iexact HU
    isplitl [HV]; · iexact HV
    iexact Hpair
  iapply (starts Wt K c Q _ sends0 Finset.univ Finset.univ order₀)
  isplitr; · iexact HR
  isplitl [HS]; · iexact HS
  iintro HS
  iapply (wp_load 𝒱₀ (c : Thread nD τ) none Set.univ (m := Memref.whole cc0_stg0_0) (Finset.subset_univ _)) $$ Hx; iintro Hx
  rw [rd_x]
  iapply (wp_load 𝒱₀ (c : Thread nD τ) none Set.univ (m := Memref.whole cc0_stg1_0) (Finset.subset_univ _)) $$ Hrw; iintro Hrw
  rw [rd_rw]
  iapply (wp_load 𝒱₀ (c : Thread nD τ) none Set.univ (m := Memref.whole cc0_stg2_0) (Finset.subset_univ _)) $$ Hidx; iintro Hidx
  iapply (wp_load 𝒱₀ (c : Thread nD τ) none Set.univ (m := Memref.whole cc0_stg2_0) (Finset.subset_univ _)) $$ Hidx; iintro Hidx
  iapply (step_pair Wt c Q 0 U₁ Finset.univ)
  isplitl [HS]; · iexact HS
  iintro HS
  iapply (step_pair Wt c Q 1 U₁ Finset.univ)
  isplitl [HS]; · iexact HS
  iintro HS
  iapply (steps Wt K c Q (k0_pay2 x) (gatesOf x rw idx) _ evs U₁ Finset.univ _ order₁)
  isplitr; · iexact HR
  isplitl [HS]; · iexact HS
  rw [unsent₁, unreceived₁]
  iintro HS
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := Rect.unit (s := S512x512) ![0, 0] S512x512.size inb_S512x512_S512x512_0_0) (Mk := Finset.univ) (Finset.subset_univ _)) $$ Hout; iintro Hout
  rw [wr_out]
  ihave HS := (st_exit Wt c) $$ [HS HA]
  · isplitl [HS]; · iexact HS
    iexact HA
  icases HS with ⟨HS, HzR, HH⟩
  iapply (swaits Wt K c Q _ order order_nodup)
  isplitr; · iexact HR
  isplitl [HS]; · iexact HS
  iintro HS
  ihave HS := (sw_exit Wt c) $$ [HS HH]
  · isplitl [HS]; · iexact HS
    iexact HH
  icases HS with ⟨HO, HB, HzS⟩
  iapply (wp_done c Q)
  iapply Hk
  unfold bodyPost Φ₁
  isplitl [HB HzS HzR HzB]
  · isplitl [HB]; · iexact HB
    isplitl [HzS]; · iexact HzS
    isplitl [HzR] <;> iassumption
  isplitl [HO]; · iexact HO
  isplitl [Hx]; · iexact Hx
  isplitl [Hrw]; · iexact Hrw
  isplitl [Hidx]; · iexact Hidx
  isplitl [Hew]; · iexact Hew
  iexact Hout

end

end Cert.KernelIdeal.Moe
-- ==== Proof.KernelIdeal.Launch.lean ====
module

public import proofs.«01_k».proof.Proof.KernelIdeal.Body
public import proofs.«01_k».proof.Proof.Gen.KernelIdeal.Launch
public import proofs.«01_k».proof.Proof.Gen.KernelIdeal.Points
public import Idealize.ShloMosaic.Lib.Pipeline.CollectiveSegs

/-! # The launch: every device's holdings, and the run -/

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The kernel's own semaphores -/

abbrev osem : Slot ⊕ Slot → SemLoc sig
  | .inl s => .dma (sendS s)
  | .inr s => .dma (recvS s)

theorem send_inj {s s' : Slot} (h : sendS s = sendS s') : s = s' := by
  have := congrArg kind h; rw [kind_send, kind_send] at this; cases this; rfl
theorem recv_inj {s s' : Slot} (h : recvS s = recvS s') : s = s' := by
  have := congrArg kind h; rw [kind_recv, kind_recv] at this; cases this; rfl
theorem send_ne_recv {s s' : Slot} : sendS s ≠ recvS s' := fun h => by
  have := congrArg kind h; rw [kind_send, kind_recv] at this; cases this

theorem csem_inj : Function.Injective csem := by
  rintro (⟨⟩ | s | s) (⟨⟩ | s' | s') h
  · rfl
  · cases h
  · cases h
  · cases h
  · rw [send_inj (SemLoc.dma.inj h)]
  · exact absurd (SemLoc.dma.inj h) send_ne_recv
  · cases h
  · exact absurd (SemLoc.dma.inj h).symm send_ne_recv
  · rw [recv_inj (SemLoc.dma.inj h)]

theorem stage_kind : ∀ (w : Fin 5) s, kind ((cfg0.spec w).sem s) = .non := by decide

theorem ownSemFacts : Pipeline.OwnSemFacts cfg0.spec osem where
  isScoped := by decide +kernel
  inj := fun k k' h => by
    have := csem_inj (a₁ := .inr k) (a₂ := .inr k') (by rcases k with k | k <;> rcases k' with k' | k' <;> exact h)
    exact Sum.inr.inj this
  disj := fun k w s h => by
    rcases k with k | k
    · have := congrArg kind (SemLoc.dma.inj h); rw [kind_send, stage_kind w s] at this; cases this
    · have := congrArg kind (SemLoc.dma.inj h); rw [kind_recv, stage_kind w s] at this; cases this

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_injective⟩

/-- The duty tokens of a device's own cells as minted: three of its barrier, one of each send and receive semaphore. -/
abbrev TK : Type := Fin 3 ⊕ Slot ⊕ Slot
abbrev tokOf (cj : Dev nD × TK) : GSem nD τ sig × ℕ × Fin 3 := match cj.2 with
  | .inl j => (barCell cj.1, 0, j)
  | .inr (.inl s) => (sndCell cj.1 s, 0, 0)
  | .inr (.inr s) => (rcvCell cj.1 s, 0, 0)

theorem tokOf_injective : Function.Injective (tokOf : Dev nD × TK → GSem nD τ sig × ℕ × Fin 3) := by
  have key : ∀ (c c' : Dev nD) (k k' : CK) (j j' : Fin 3), (kcell (c, k), (0 : ℕ), j) = (kcell (c', k'), 0, j') → c = c' ∧ k = k' ∧ j = j' := by
    intro c c' k k' j j' h
    have h1 := kcell_injective (congrArg Prod.fst h)
    exact ⟨congrArg Prod.fst h1, congrArg Prod.snd h1, congrArg (fun x => x.2.2) h⟩
  rintro ⟨c, j | s | s⟩ ⟨c', j' | s' | s'⟩ h
  · obtain ⟨rfl, -, rfl⟩ := key c c' (.inl ()) (.inl ()) j j' h; rfl
  · have h := key c c' (.inl ()) (.inr (.inl s')) j 0 h; cases h.2.1
  · have h := key c c' (.inl ()) (.inr (.inr s')) j 0 h; cases h.2.1
  · have h := key c c' (.inr (.inl s)) (.inl ()) 0 j' h; cases h.2.1
  · obtain ⟨rfl, h, -⟩ := key c c' (.inr (.inl s)) (.inr (.inl s')) 0 0 h; cases h; rfl
  · have h := key c c' (.inr (.inl s)) (.inr (.inr s')) 0 0 h; cases h.2.1
  · have h := key c c' (.inr (.inr s)) (.inl ()) 0 j' h; cases h.2.1
  · have h := key c c' (.inr (.inr s)) (.inr (.inl s')) 0 0 h; cases h.2.1
  · obtain ⟨rfl, h, -⟩ := key c c' (.inr (.inr s)) (.inr (.inr s')) 0 0 h; cases h; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-! ## What is owed, cell by cell -/

theorem bar_eq_iff {a b : Dev nD} : Iff (barCell a = barCell b) (a = b) :=
  ⟨fun h => Fin.ext (congrArg (fun g : GSem nD τ sig => g.1.1.val) h), fun h => h ▸ rfl⟩
theorem rcv_eq_iff {a b : Dev nD} {s s' : Slot} : Iff (rcvCell a s = rcvCell b s') (a = b ∧ s = s') :=
  ⟨fun h => ⟨Fin.ext (congrArg (fun g : GSem nD τ sig => g.1.1.val) h), recv_inj (SemLoc.dma.inj (congrArg Prod.snd h))⟩,
    fun h => by rw [h.1, h.2]⟩
theorem rcv_ne_bar {a b : Dev nD} {s : Slot} : rcvCell a s ≠ barCell b := fun h => by have := congrArg Prod.snd h; cases this

/-- Who signals a device's barrier. -/
theorem owed_bar (d c : Dev nD) : O₀ d (barCell c) () = (if d = prt c then 1 else 0) + (if d = nxt c then 1 else 0) + (if d = prv c then 1 else 0) := by
  have h0 : owedR d Finset.univ (barCell c) () = 0 := by
    by_contra h
    obtain ⟨s, -, hs⟩ := owedR_pos (Nat.pos_of_ne_zero h)
    exact rcv_ne_bar hs.symm
  unfold O₀
  rw [Pi.add_apply, Finsupp.add_apply, Pi.add_apply, Finsupp.add_apply, Pi.add_apply, Finsupp.add_apply,
    tallyAt_apply, tallyAt_apply, tallyAt_apply, h0, Nat.zero_add]
  have e1 : barCell c = barCell (prt d) ↔ d = prt c := ⟨fun h => by rw [bar_eq_iff.mp h, prt_prt], fun h => by rw [h, prt_prt]⟩
  have e2 : barCell c = barCell (prv d) ↔ d = nxt c := ⟨fun h => by rw [bar_eq_iff.mp h, nxt_prv], fun h => by rw [h, prv_nxt]⟩
  have e3 : barCell c = barCell (nxt d) ↔ d = prv c := ⟨fun h => by rw [bar_eq_iff.mp h, prv_nxt], fun h => by rw [h, nxt_prv]⟩
  simp only [and_true, e1, e2, e3]

/-- Who copies into a slot of a device. -/
theorem owed_rcv (d c : Dev nD) (s : Slot) : O₀ d (rcvCell c s) () = if d = frm s c then N else 0 := by
  unfold O₀
  rw [Pi.add_apply, Finsupp.add_apply, Pi.add_apply, Finsupp.add_apply, Pi.add_apply, Finsupp.add_apply,
    tallyAt_apply, tallyAt_apply, tallyAt_apply, if_neg (fun h => rcv_ne_bar h.1), if_neg (fun h => rcv_ne_bar h.1), if_neg (fun h => rcv_ne_bar h.1)]
  unfold owedR
  rw [Finset.sum_apply, Finsupp.finsetSum_apply, Finset.sum_eq_single s]
  · rw [tallyAt_apply]
    by_cases h : d = frm s c
    · subst h; rw [if_pos ⟨by rw [tgt_frm], rfl⟩, if_pos rfl]; rfl
    · rw [if_neg (fun h' => h (by rw [(rcv_eq_iff.mp h'.1).1, frm_tgt])), if_neg h]
  · intro s' _ hne
    rw [tallyAt_apply, if_neg (fun h' => hne (rcv_eq_iff.mp h'.1).2.symm)]
  · intro h; exact absurd (Finset.mem_univ _) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (prt c) fun _ => 1, Finset.sum_ite_eq' Finset.univ (nxt c) fun _ => 1, Finset.sum_ite_eq' Finset.univ (prv c) fun _ => 1,
    if_pos (Finset.mem_univ _), if_pos (Finset.mem_univ _), if_pos (Finset.mem_univ _)]

theorem launch_rcv (c : Dev nD) (s : Slot) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s, Finset.sum_ite_eq' Finset.univ (frm s c) fun _ => N,
    if_pos (Finset.mem_univ _)]

/-- The equivalences of the devices with their neighbours. -/
def eNxt : Dev nD ≃ Dev nD := ⟨nxt, prv, prv_nxt, nxt_prv⟩
def ePrt : Dev nD ≃ Dev nD := ⟨prt, prt, prt_prt, prt_prt⟩

section
variable {F : FTy → Type} [FloatOps F]

local notation "𝕄" => MT nD τ sig Unit (Elt F) ℕ UU ℕ

omit [FloatOps F] in
theorem creds (c : Dev nD) :
    (Pipeline.launchCred O₀ c : sProp 𝕄) ⊢ iprop(cred (tallyAt (barCell c) () 3) ∗ bigSep Finset.univ fun s : Slot => cred (tallyAt (rcvCell c s) () N)) := by
  unfold Pipeline.launchCred
  rw [bigSep_univ_at _ (SemLoc.reg bar), launch_bar]
  refine sep_mono_right ?_
  have hs : Finset.univ.map ⟨fun s : Slot => SemLoc.dma (recvS s), fun s s' h => recv_inj (SemLoc.dma.inj h)⟩ ⊆ Finset.univ.erase (SemLoc.reg bar : SemLoc sig) := by
    intro sm h
    obtain ⟨s, -, rfl⟩ := Finset.mem_map.mp h
    exact Finset.mem_erase.mpr ⟨(fun h => by cases h), Finset.mem_univ _⟩
  refine (bigSep_subset hs).trans ?_
  rw [bigSep_map]
  exact bigSep_mono fun s _ => Entails.of_eq (congrArg cred (launch_rcv c s))

/-- The duty tokens of a device's own cells. -/
def toks (c : Dev nD) : sProp 𝕄 :=
  iprop((dutyTok ER (barCell c) 0 0 ∗ dutyTok ER (barCell c) 0 1 ∗ dutyTok ER (barCell c) 0 2)
    ∗ (bigSep Finset.univ fun s : Slot => dutyTok ER (sndCell c s) 0 0) ∗ bigSep Finset.univ fun s : Slot => dutyTok ER (rcvCell c s) 0 0)

/-- The duty tokens of the duties a device pays. -/
def payToks (c : Dev nD) : sProp 𝕄 :=
  iprop((dutyTok ER (barCell (nxt c)) 0 0 ∗ dutyTok ER (barCell (prv c)) 0 1 ∗ dutyTok ER (barCell (prt c)) 0 2)
    ∗ (bigSep Finset.univ fun s : Slot => dutyTok ER (sndCell c s) 0 0) ∗ bigSep Finset.univ fun s : Slot => dutyTok ER (rcvCell (tgt s c) s) 0 0)

omit [FloatOps F] in
theorem bigSep_TK (Φ : TK → sProp 𝕄) : bigSep Finset.univ Φ
    = iprop((Φ (.inl 0) ∗ Φ (.inl 1) ∗ Φ (.inl 2)) ∗ (bigSep Finset.univ fun s : Slot => Φ (.inr (.inl s))) ∗ bigSep Finset.univ fun s : Slot => Φ (.inr (.inr s))) := by
  rw [bigSep_univ_sum, bigSep_univ_sum, Ring.bigSep_fin3]; rfl

omit [FloatOps F] in
theorem bigSep_CK (Φ : CK → sProp 𝕄) : bigSep Finset.univ Φ
    = iprop(Φ (.inl ()) ∗ (bigSep Finset.univ fun s : Slot => Φ (.inr (.inl s))) ∗ bigSep Finset.univ fun s : Slot => Φ (.inr (.inr s))) := by
  rw [bigSep_univ_sum, bigSep_univ_sum, bigSep_univ_eq_bigSepL [()] (by decide) (by decide)]; rfl

omit [FloatOps F] in
/-- Each token dealt to the device that pays its duty. -/
theorem toks_around : (bigSep Finset.univ fun c : Dev nD => (toks c : sProp 𝕄)) ⊢ bigSep Finset.univ fun c : Dev nD => payToks c := by
  have hR : (bigSep Finset.univ fun c : Dev nD => bigSep Finset.univ fun s : Slot => (dutyTok ER (rcvCell c s) 0 0 : sProp 𝕄))
      = bigSep Finset.univ fun c : Dev nD => bigSep Finset.univ fun s : Slot => (dutyTok ER (rcvCell (tgt s c) s) 0 0 : sProp 𝕄) := by
    rw [bigSep_univ_comm, bigSep_univ_comm (fun (c : Dev nD) (s : Slot) => (dutyTok ER (rcvCell (tgt s c) s) 0 0 : sProp 𝕄))]
    exact bigSep_congr fun s _ => bigSep_univ_equiv (around s) (fun c : Dev nD => (dutyTok ER (rcvCell c s) 0 0 : sProp 𝕄))
  unfold toks payToks
  simp only [bigSep_sep']
  rw [hR, bigSep_univ_equiv eNxt (fun c : Dev nD => (dutyTok ER (barCell c) 0 0 : sProp 𝕄)),
    bigSep_univ_equiv eNxt.symm (fun c : Dev nD => (dutyTok ER (barCell c) 0 1 : sProp 𝕄)),
    bigSep_univ_equiv ePrt (fun c : Dev nD => (dutyTok ER (barCell c) 0 2 : sProp 𝕄))]
  exact Entails.rfl

variable (m : (ℓ : Loc nD τ sig) → Buf (Elt F) ℓ) (ρ : Dev nD → PrngReg)

/-! ## The memory at launch, and what the devices compute from it -/

/-- The state at launch. -/
def s₀ : MemSt nD τ sig (Elt F) := ⟨m, fun _ => 0, ρ⟩

def xstg (c : Dev nD) : (cc0_stg0_0 : Ref sig .tc).ty.Contents (Elt F) :=
  (win0_0.blk (0 : Fin 1)).view.read (Elt F) ((s₀ m ρ).mem ((c : Thread nD τ).loc main_arg0))
def rwstg (c : Dev nD) : (cc0_stg1_0 : Ref sig .tc).ty.Contents (Elt F) :=
  (win0_1.blk (0 : Fin 1)).view.read (Elt F) ((s₀ m ρ).mem ((c : Thread nD τ).loc main_arg1))
def idstg (c : Dev nD) : (cc0_stg2_0 : Ref sig .tc).ty.Contents (Elt F) :=
  (win0_2.blk (0 : Fin 1)).view.read (Elt F) ((s₀ m ρ).mem ((c : Thread nD τ).loc main_arg2))
def ewstg (c : Dev nD) : (cc0_stg3_0 : Ref sig .tc).ty.Contents (Elt F) :=
  (win0_3.blk (0 : Fin 1)).view.read (Elt F) ((s₀ m ρ).mem ((c : Thread nD τ).loc main_arg3))

/-- The two slices a device contributes. -/
def wts (c : Dev nD) (y : Fin 2) : Sl F := sliceOf (k0_pay1 (ewstg m ρ c)) y

/-- A device's result. -/
def outAt (c : Dev nD) : (cc0_stg4_0 : Ref sig .tc).ty.Contents (Elt F) :=
  outOf (wts m ρ) c (xstg m ρ c) (rwstg m ρ c) (idstg m ρ c)

/-- The scratch buffers the body never names. -/
def spare (c : Dev nD) : sProp 𝕄 := iprop(anyB c cc0_scratch4 ∗ anyB c cc0_scratch5)

/-- What a device starts from. -/
def start (c : Dev nD) : sProp 𝕄 := iprop((∃ K, recs (wts m ρ) K) ∗ own0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => idstg m ρ c
    | ⟨3, _⟩ => ewstg m ρ c
    | ⟨4, _⟩ => outAt m ρ c
  Φ t := match t with
    | ⟨0, _⟩ => iprop(Φ₀ (wts m ρ) c ∗ spare c)
    | ⟨_ + 1, _⟩ => iprop(Φ₁ c ∗ spare c)
  q _ := fullShare
  owed t := match t with
    | ⟨0, _⟩ => O₀ c
    | ⟨_ + 1, _⟩ => 0

/-! ## The body's obligation -/

omit [FloatOps F] in
theorem owns_whole_eq (c : Dev nD) (b : Ref sig .tc) (X : b.ty.Contents (Elt F)) :
    (owns (c : Thread nD τ) (Memref.whole b) fullShare X : sProp 𝕄) = iprop(∃ f, ⌜f = X⌝ ∗ ((c : Thread nD τ).loc b) ↦{fullShare} f) := by
  unfold owns; simp only [Memref.view_whole, View.read_whole, View.set_whole]

theorem fetch_in (w : Fin 5) (h : w ≠ 4) (t : Fin cfg0.N) : (cfg0.win w).fetch t = true := by
  rw [fin_N0 t]; revert w; decide

set_option maxRecDepth 200000 in
/-- The body's obligation on a device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h0 (d) : (dats m ρ 0 c).before (0 : Fin 5) t0_0 d = xstg m ρ c := by unfold Dat.before; rw [if_pos (fetch_in 0 (by decide) _)]; rfl
  have h1 (d) : (dats m ρ 0 c).before (1 : Fin 5) t0_0 d = rwstg m ρ c := by unfold Dat.before; rw [if_pos (fetch_in 1 (by decide) _)]; rfl
  have h2 (d) : (dats m ρ 0 c).before (2 : Fin 5) t0_0 d = idstg m ρ c := by unfold Dat.before; rw [if_pos (fetch_in 2 (by decide) _)]; rfl
  have h3 (d) : (dats m ρ 0 c).before (3 : Fin 5) t0_0 d = ewstg m ρ c := by unfold Dat.before; rw [if_pos (fetch_in 3 (by decide) _)]; rfl
  have key : iprop((Φ₀ (wts m ρ) c ∗ spare c) ∗ (dats m ρ 0 c).owesAt () t0_0.castSucc
      ∗ (∃ d, ∃ f : Buf (Elt F) ((c : Thread nD τ).loc cc0_stg0_0), ⌜f = (dats m ρ 0 c).before (0 : Fin 5) t0_0 d⌝ ∗ ((c : Thread nD τ).loc cc0_stg0_0) ↦{fullShare} f)
      ∗ (∃ d, ∃ f : Buf (Elt F) ((c : Thread nD τ).loc cc0_stg1_0), ⌜f = (dats m ρ 0 c).before (1 : Fin 5) t0_0 d⌝ ∗ ((c : Thread nD τ).loc cc0_stg1_0) ↦{fullShare} f)
      ∗ (∃ d, ∃ f : Buf (Elt F) ((c : Thread nD τ).loc cc0_stg2_0), ⌜f = (dats m ρ 0 c).before (2 : Fin 5) t0_0 d⌝ ∗ ((c : Thread nD τ).loc cc0_stg2_0) ↦{fullShare} f)
      ∗ (∃ d, ∃ f : Buf (Elt F) ((c : Thread nD τ).loc cc0_stg3_0), ⌜f = (dats m ρ 0 c).before (3 : Fin 5) t0_0 d⌝ ∗ ((c : Thread nD τ).loc cc0_stg3_0) ↦{fullShare} f)
      ∗ (∃ d, ∃ f : Buf (Elt F) ((c : Thread nD τ).loc cc0_stg4_0), ⌜f = (dats m ρ 0 c).before (4 : Fin 5) t0_0 d⌝ ∗ ((c : Thread nD τ).loc cc0_stg4_0) ↦{fullShare} f))
      ⊢ WP c (body F) (fun _ => iprop((Φ₁ c ∗ spare c) ∗ (dats m ρ 0 c).owesAt () t0_0.succ
        ∗ (∃ f : Buf (Elt F) ((c : Thread nD τ).loc cc0_stg0_0), ⌜f = xstg m ρ c⌝ ∗ ((c : Thread nD τ).loc cc0_stg0_0) ↦{fullShare} f)
        ∗ (∃ f : Buf (Elt F) ((c : Thread nD τ).loc cc0_stg1_0), ⌜f = rwstg m ρ c⌝ ∗ ((c : Thread nD τ).loc cc0_stg1_0) ↦{fullShare} f)
        ∗ (∃ f : Buf (Elt F) ((c : Thread nD τ).loc cc0_stg2_0), ⌜f = idstg m ρ c⌝ ∗ ((c : Thread nD τ).loc cc0_stg2_0) ↦{fullShare} f)
        ∗ (∃ f : Buf (Elt F) ((c : Thread nD τ).loc cc0_stg3_0), ⌜f = ewstg m ρ c⌝ ∗ ((c : Thread nD τ).loc cc0_stg3_0) ↦{fullShare} f)
        ∗ (∃ f : Buf (Elt F) ((c : Thread nD τ).loc cc0_stg4_0), ⌜f = outAt m ρ c⌝ ∗ ((c : Thread nD τ).loc cc0_stg4_0) ↦{fullShare} f))) := by
    simp only [h0, h1, h2, h3]
    unfold Φ₀ Dat.owesAt Pipeline.owesWithin
    rw [show (dats m ρ 0 c).owed t0_0.castSucc = O₀ c from rfl, show (dats m ρ 0 c).owed t0_0.succ = 0 from rfl]
    iintro ⟨⟨⟨⟨%K, HR⟩, Hown, HB⟩, Hsp⟩, ⟨%W, %hW, HO⟩, ⟨%d0, %f0, %e0, Hx⟩, ⟨%d1, %f1, %e1, Hrw⟩, ⟨%d2, %f2, %e2, Hidx⟩, ⟨%d3, %f3, %e3, Hew⟩, ⟨%d4, %f4, %e4, Hout⟩⟩
    subst e0 e1 e2 e3
    iapply (sound_body (wts m ρ) K c (xstg m ρ c) (rwstg m ρ c) (idstg m ρ c) (ewstg m ρ c) (fun _ => rfl))
    unfold bodyPre bodyPost
    isplitl [HR Hown HB HO Hx Hrw Hidx Hew Hout]
    · isplitl [HR]; · iexact HR
      isplitl [Hown]; · iexact Hown
      isplitl [HB]; · iexact HB
      isplitl [HO]; · iexists W; iexact HO
      isplitl [Hx]; · iexact Hx
      isplitl [Hrw]; · iexact Hrw
      isplitl [Hidx]; · iexact Hidx
      isplitl [Hew]; · iexact Hew
      iexists f4; iexact Hout
    · iintro ⟨HΦ, ⟨%W', HO⟩, Hx, Hrw, Hidx, Hew, Hout⟩
      isplitl [HΦ Hsp]
      · isplitl [HΦ]; · iexact HΦ
        iexact Hsp
      isplitl [HO]
      · iexists W'
        isplitr; · ipureintro; exact fun _ _ => Or.inl trivial
        iexact HO
      isplitl [Hx]
      · iexists _; isplitr; · (ipureintro; rfl)
        iexact Hx
      isplitl [Hrw]
      · iexists _; isplitr; · (ipureintro; rfl)
        iexact Hrw
      isplitl [Hidx]
      · iexists _; isplitr; · (ipureintro; rfl)
        iexact Hidx
      isplitl [Hew]
      · iexists _; isplitr; · (ipureintro; rfl)
        iexact Hew
      iexists _; isplitr; · (ipureintro; rfl)
      iexact Hout
  unfold WP at key
  rw [← body_eq] at key
  refine BIBase.Entails.trans ?_ (BIBase.Entails.trans key (?_ : wp frame (wpE (defs₀ (F := F)) 𝒱₀ c none) Set.univ (bodyAt0 (F := F) t0_0) _ ⊢ wp frame (wpE (defs₀ (F := F)) 𝒱₀ c none) Set.univ (bodyAt0 (F := F) t0_0) _))
  · exact Entails.rfl
  · exact Entails.rfl

theorem share_eq (c : Dev nD) (w : Fin cfg0.W) : (dats m ρ 0 c).share w = fullShare := by unfold Dat.share; split <;> rfl

/-! ## The global step -/

/-- What the launch deals a device. -/
def G (c : Dev nD) : sProp 𝕄 :=
  iprop((bigSep Finset.univ fun k : CK => roundState ER (rd (wts m ρ)) (kcell (c, k)) 0)
    ∗ (bigSep Finset.univ fun k : CK => iprop(atPos ER (kcell (c, k)) 0 ∅ 0 ∗ reached ER (kcell (c, k)) 0)) ∗ toks c)

/-- Every cell's invariant, and that every cell reached its first round. -/
def records (K : Dev nD × CK → ℕ) : sProp 𝕄 :=
  iprop((bigSep Finset.univ fun ck : Dev nD × CK => cellInv ER (rd (wts m ρ)) (K ck) (kcell ck))
    ∗ bigSep Finset.univ fun ck : Dev nD × CK => reached ER (kcell ck) 0)

instance records_persistent (K : Dev nD × CK → ℕ) : BI.Persistent (records m ρ K) := by unfold records; infer_instance

/-- What a device alone holds: its positions and the tokens of the duties it pays. -/
def linear (c : Dev nD) : sProp 𝕄 := iprop((bigSep Finset.univ fun k : CK => atPos ER (kcell (c, k)) 0 ∅ 0) ∗ payToks c)

/-- What the global step makes of what was dealt. -/
def G' (c : Dev nD) : sProp 𝕄 := iprop((∃ K, records m ρ K) ∗ linear c)

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (rd (wts m ρ)) ringCells ringToks) $$ HX with ⟨Hst, Hr, Hat, Htok⟩
  imodintro
  ihave Hst' := (Entails.of_eq (hX fun g => roundState ER (rd (wts m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun s : Slot => semVal (sndCell c s) 0) ∗ bigSep Finset.univ fun s : Slot => semVal (rcvCell c s) 0) := by
  unfold Pipeline.ownSems0; rw [bigSep_univ_sum]; rfl

omit [FloatOps F] in
theorem unscopedSems0_eq (c : Dev nD) : (unscopedSems0 c : sProp 𝕄) = semVal (barCell c) 0 := by
  unfold unscopedSems0; rw [bigSep_eq_bigSepL_of_eq [SemLoc.reg bar] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

omit [FloatOps F] in
theorem alloc_all (c : Dev nD) :
    iprop((bigSep Finset.univ fun k : CK => semVal (kcell (c, k)) 0) ∗ bigSep Finset.univ fun k : CK => roundState ER (rd (wts m ρ)) (kcell (c, k)) 0)
      ⊢ (|={Set.univ}=> bigSep Finset.univ fun k => iprop(∃ κ : ℕ, cellInv ER (rd (wts m ρ)) κ (kcell (c, k))) : sProp 𝕄) := by
  rw [← bigSep_sep']
  exact (bigSep_mono fun k _ => (Rounds.body_intro ER (rd (wts m ρ)) (kcell (c, k))).trans inv_alloc).trans (bigSep_fupd _ _)

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (wts m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (alloc_all m ρ c) $$ [Hv Hst] with Hinv
  · isplitl [Hv] <;> iassumption
  imodintro
  isplitl [Hinv]; · iexact Hinv
  isplitl [Hat]; · iexact Hat
  iexact Htok

omit [FloatOps F] in
theorem ghost_intro (K : Dev nD × CK → ℕ) (c : Dev nD) : iprop(records m ρ K ∗ linear c) ⊢ G' m ρ c := by
  unfold G'
  iintro ⟨HR, HL⟩
  isplitl [HR]; · iexists K; iexact HR
  iexact HL

omit [FloatOps F] in
theorem regroup :
    (bigSep Finset.univ fun c : Dev nD => iprop((bigSep Finset.univ fun k => iprop(∃ κ : ℕ, cellInv ER (rd (wts m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (rd (wts m ρ)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd (wts m ρ)) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.rfl))
    isplitl [Hat]; · iexact Hat
    iexact Htk

omit [FloatOps F] in
/-- The semaphores of all devices become the protocol's cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The ends of the region -/

omit [FloatOps F] in
theorem own0_intro (c : Dev nD) :
    iprop(linear c ∗ cred (tallyAt (barCell c) () 3) ∗ bigSep Finset.univ fun s : Slot => cred (tallyAt (rcvCell c s) () N)) ⊢ (own0 c : sProp 𝕄) := by
  unfold linear payToks own0 toRecv
  rw [bigSep_CK, bigSep_sep', bigSep_sep']
  iintro ⟨⟨⟨HaB, HaS, HaV⟩, HtB, HtS, HtV⟩, HcB, HcV⟩
  isplitl [HaB]; · iexact HaB
  isplitl [HcB]; · iexact HcB
  isplitl [HtB]; · iexact HtB
  isplitl [HtS HtV]
  · isplitl [HtS] <;> iassumption
  isplitl [HaV HcV]
  · isplitl [HaV] <;> iassumption
  iexact HaS

omit [FloatOps F] in
theorem recs_intro (K : Dev nD × CK → ℕ) : iprop(records m ρ K ∗ levAts L lv) ⊢ recs (wts m ρ) K := by
  unfold records recs
  iintro ⟨⟨HI, HR⟩, HL⟩
  isplitl [HI]; · iexact HI
  isplitl [HR]; · iexact HR
  iexact HL

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  icases HG with ⟨⟨%K, HR⟩, HL⟩
  isplitl
  · isplitl [HR Hlev]
    · iexists K
      iapply (recs_intro m ρ K)
      isplitl [HR]; · iexact HR
      iexact Hlev
    · iapply (own0_intro (F := F) c)
      isplitl [HL]; · iexact HL
      isplitl [H1]; · iexact H1
      iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Φ₀ (wts m ρ) c ∗ spare c) from rfl, scopedRest0_eq]
  unfold Φ₀ start bufs spare
  iintro ⟨⟨HR, HO⟩, -, H0, H1, H2, H3, H4, H5⟩
  isplitl [HR HO H0 H1 H2 H3]
  · isplitl [HR]; · iexact HR
    isplitl [HO]; · iexact HO
    isplitl [H0]; · iexact H0
    iapply (slots_cut (F := F) c)
    isplitl [H1]; · iexact H1
    isplitl [H2]; · iexact H2
    iexact H3
  isplitl [H4]; · iexact H4
  iexact H5

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Φ₁ c ∗ spare c) from rfl, scopedRest0_eq, ownSems0_eq, unscopedSems0_eq]
  unfold Φ₁ bufs spare
  iintro ⟨⟨⟨H0, HF⟩, HzS, HzV, HzB⟩, H4, H5⟩
  ihave H := (slots_join (F := F) c) $$ HF
  icases H with ⟨H1, H2, H3⟩
  isplitl [HzB]; · iexact HzB
  isplitl [HzS HzV]
  · isplitl [HzS] <;> iassumption
  isplitl [H0]; · iexact H0
  isplitl [H1]; · iexact H1
  isplitl [H2]; · iexact H2
  isplitl [H3]; · iexact H3
  isplitl [H4]; · iexact H4
  iexact H5

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_kind w s) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every window's array is what the data say. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of the 32 devices terminates; each device's result is
    the computed one, its arguments are unchanged, and every semaphore counter is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end

end Cert.KernelIdeal.Moe
-- ==== Proof.Row.lean ====
module

public import Idealize.ShloMosaic.PureOps.Ideal
public import Idealize.ShloMosaic.Lib.IdealHost

/-! # One token's row

A token's scores give each expert a weight; two of the experts are chosen. This module says that the
sum over all the experts, each times a gate that is zero unless the expert is chosen, is the two
chosen experts' sum, each times its share of the two normalized weights. -/

@[expose] public section

noncomputable section

namespace Cert.Moe

open Idealize.ShloMosaic

/-- The word of negative infinity is the least value. -/
theorem ofBits_ninf : Ideal.ofBits .f32 4286578688#32 = ⊥ := by
  simp [Ideal.ofBits, Ideal.ieee]

/-- The greatest score. -/
def top (s : Fin 64 → EReal) : EReal := Finset.univ.fold max ⊥ s
/-- An expert's weight before it is normalized. -/
def wt (s : Fin 64 → EReal) (j : Fin 64) : EReal := Ideal.exp (s j - top s)
/-- The gate of an expert: the shares of the chosen places that name it. -/
def gate (p : Fin 64 → EReal) (a b j : Fin 64) : EReal :=
  (if j = a then 1 else 0) * (p a * Ideal.div 1 (p a + p b)) + (if j = b then 1 else 0) * (p b * Ideal.div 1 (p a + p b))
/-- A normalized weight. -/
def nrm (p : Fin 64 → EReal) (j : Fin 64) : EReal := Ideal.div (p j) (∑ k, p k)
/-- The two chosen experts' values, each times its share. -/
def two (p y : Fin 64 → EReal) (a b : Fin 64) : EReal :=
  Ideal.div (nrm p a) (nrm p a + nrm p b) * y a + Ideal.div (nrm p b) (nrm p a + nrm p b) * y b

/-- The greatest of finitely many real scores is real. -/
theorem top_real (s : Fin 64 → EReal) (hs : ∀ j, ∃ r : ℝ, s j = r) : ∃ t : ℝ, top s = t := by
  have h1 : top s < ⊤ := by
    unfold top
    rw [Finset.fold_max_lt]
    exact ⟨bot_lt_top, fun j _ => by obtain ⟨r, h⟩ := hs j; rw [h]; exact EReal.coe_lt_top r⟩
  have h2 : ⊥ < top s := by
    unfold top
    rw [Finset.lt_fold_max]
    exact Or.inr ⟨0, Finset.mem_univ _, by obtain ⟨r, h⟩ := hs 0; rw [h]; exact EReal.bot_lt_coe r⟩
  exact ⟨(top s).toReal, (EReal.coe_toReal h1.ne h2.ne').symm⟩

/-- Weights of real scores are positive reals. -/
theorem wt_real (s : Fin 64 → EReal) (hs : ∀ j, ∃ r : ℝ, s j = r) : ∃ q : Fin 64 → ℝ, (∀ j, 0 < q j) ∧ wt s = fun j => (q j : EReal) := by
  obtain ⟨t, ht⟩ := top_real s hs
  choose r hr using hs
  refine ⟨fun j => Real.exp (r j - t), fun j => Real.exp_pos _, funext fun j => ?_⟩
  unfold wt
  rw [ht, hr j, ← EReal.coe_sub]
  rfl

/-- A sum of reals is real. -/
theorem coe_sum {ι : Type} (S : Finset ι) (q : ι → ℝ) : ∑ j ∈ S, (q j : EReal) = ((∑ j ∈ S, q j : ℝ) : EReal) := by
  classical
  induction S using Finset.induction_on with
  | empty => simp
  | insert i S hi ih => rw [Finset.sum_insert hi, Finset.sum_insert hi, ih, EReal.coe_add]

/-- A quotient of reals is real where the divisor is not zero. -/
theorem div_real {y : ℝ} (h : y ≠ 0) (x : ℝ) : Ideal.div (x : EReal) (y : EReal) = ((x / y : ℝ) : EReal) := by
  rw [Ideal.div_coe h, ← EReal.coe_mul, mul_one_div]

/-- A gate picks its expert out of the sum. -/
theorem sum_pick (a : Fin 64) (A : EReal) (y : Fin 64 → EReal) : ∑ e, (if e = a then (1 : EReal) else 0) * A * y e = A * y a := by
  rw [Finset.sum_eq_single a]
  · rw [if_pos rfl, one_mul]
  · intro e _ he; rw [if_neg he, zero_mul, zero_mul]
  · intro h; exact absurd (Finset.mem_univ a) h

/-- The sum over all the experts is the sum over the two that are chosen. -/
theorem row_eq (s y : Fin 64 → EReal) (hs : ∀ j, ∃ r : ℝ, s j = r) (a b : Fin 64) :
    ∑ e, gate (wt s) a b e * y e = two (wt s) y a b := by
  obtain ⟨q, hq, hw⟩ := wt_real s hs
  rw [hw]
  have hab : q a + q b ≠ 0 := (add_pos (hq a) (hq b)).ne'
  have hZ : (∑ j, q j) ≠ 0 := (Finset.sum_pos (fun j _ => hq j) ⟨0, Finset.mem_univ _⟩).ne'
  have hk (c : Fin 64) : (q c : EReal) * Ideal.div 1 ((q a : EReal) + q b) = ((q c / (q a + q b) : ℝ) : EReal) := by
    rw [← EReal.coe_add, ← EReal.coe_one, div_real hab, ← EReal.coe_mul, mul_one_div]
  have hn (c : Fin 64) : nrm (fun j => (q j : EReal)) c = ((q c / ∑ j, q j : ℝ) : EReal) := by
    unfold nrm
    rw [coe_sum, div_real hZ]
  have hr (c : Fin 64) : Ideal.div (nrm (fun j => (q j : EReal)) c) (nrm (fun j => (q j : EReal)) a + nrm (fun j => (q j : EReal)) b)
      = ((q c / (q a + q b) : ℝ) : EReal) := by
    rw [hn, hn, hn, ← EReal.coe_add, ← add_div, div_real (div_ne_zero hab hZ), div_div_div_cancel_right₀ hZ]
  unfold two gate
  rw [hr, hr, ← sum_pick a _ y, ← sum_pick b _ y, ← Finset.sum_add_distrib]
  refine Finset.sum_congr rfl fun e _ => ?_
  rw [hk, hk]
  have h0 (c : Fin 64) : (0 : EReal) ≤ ((q c / (q a + q b) : ℝ) : EReal) :=
    EReal.coe_nonneg.2 (div_nonneg (hq c).le (add_pos (hq a) (hq b)).le)
  have h01 (c : Fin 64) : (0 : EReal) ≤ if e = c then 1 else 0 := by split_ifs; exacts [zero_le_one, le_rfl]
  exact EReal.right_distrib_of_nonneg (mul_nonneg (h01 a) (h0 a)) (mul_nonneg (h01 b) (h0 b))

end Cert.Moe

end
-- ==== Proof.KernelIdeal.Value.lean ====
module

public import proofs.«01_k».proof.Proof.KernelIdeal.Body
public import proofs.«01_k».proof.Proof.Row
public import Idealize.ShloMosaic.Lib.Pointwise

/-! # A device's result over the extended reals

The accumulator adds each of the sixty-four experts once, whichever device holds it. At a token and a
place of the result it is therefore the sum over all the experts of gate times value. -/

@[expose] public section

noncomputable section

namespace Cert.KernelIdeal.Moe

open Cert.KernelIdeal Cert.KernelIdeal.Gen
open Idealize.ShloMosaic
open Idealize.ShloMosaic.TcCoe
open Cert.Moe

/-! ## Every expert once -/

/-- The number of an expert, from the device that holds it and its place there. -/
def ex (p : Dev nD × Fin 2) : Fin 64 :=
  ⟨2 * p.1.val + p.2.val, by have h : p.1.val < 32 := p.1.isLt; have h2 := p.2.isLt; omega⟩
/-- The device that holds an expert, and its place there. -/
def unex (e : Fin 64) : Dev nD × Fin 2 :=
  (⟨e.val / 2, by have h := e.isLt; show e.val / 2 < 32; omega⟩, ⟨e.val % 2, by omega⟩)

/-- Experts are numbered once each. -/
def exEquiv : Dev nD × Fin 2 ≃ Fin 64 where
  toFun := ex
  invFun := unex
  left_inv := fun p => Prod.ext
    (Fin.ext (by have h2 := p.2.isLt; show (2 * p.1.val + p.2.val) / 2 = p.1.val; omega))
    (Fin.ext (by have h2 := p.2.isLt; show (2 * p.1.val + p.2.val) % 2 = p.2.val; omega))
  right_inv := fun e => Fin.ext (by show 2 * (e.val / 2) + e.val % 2 = e.val; omega)

/-- The word the kernel computes for an expert. -/
theorem ex_word : ∀ (d : Dev nD) (k : Fin 2),
    Scalar.addi (Scalar.muli (BitVec.ofNat 32 d.val) 2#32) (BitVec.ofNat 32 k.val) = BitVec.ofNat 32 (ex (d, k)).val := by decide +kernel

/-- Where a device finds a given slice of a given device. -/
def place (d : Dev nD) (p : Dev nD × Fin 2) : Fin 2 ⊕ Slot :=
  let t := (pos d - pos p.1).val
  let c : Nat := if lane p.1 = lane d then p.2.val else p.2.val + 2
  if t = 0 then (if lane p.1 = lane d then .inl p.2 else .inr (.xp p.2))
  else if t ≤ 8 then .inr (.cw (Fin.ofNat 8 (t - 1)) (Fin.ofNat 4 c))
  else .inr (.ccw (Fin.ofNat 7 (15 - t)) (Fin.ofNat 4 c))

theorem ownP_place : ∀ (d e : Dev nD) (k : Fin 2), ownP d (place d (e, k)) = (e, k) := by decide +kernel

/-- A device's own slices and its slots hold every slice once. -/
theorem ownP_bij (d : Dev nD) : Function.Bijective (ownP d) := by
  refine (Fintype.bijective_iff_surjective_and_card _).2 ⟨fun p => ⟨place d p, ownP_place d p.1 p.2⟩, ?_⟩
  decide

/-- The slots that a list of events adds to the accumulator, in order. -/
def usesOf : List Ev → List Slot
  | [] => []
  | .use s :: es => s :: usesOf es
  | .send _ :: es => usesOf es
  | .recv _ :: es => usesOf es

theorem uses_nodup : (usesOf evs).Nodup := by decide +kernel
theorem uses_all : ∀ s : Slot, s ∈ usesOf evs := by decide +kernel

/-- Every slot is added once. -/
theorem sum_uses {M : Type} [AddCommMonoid M] (f : Slot → M) : ((usesOf evs).map f).sum = ∑ s, f s := by
  rw [← List.sum_toFinset f uses_nodup]
  refine Finset.sum_congr (Finset.ext fun s => ?_) fun _ _ => rfl
  rw [List.mem_toFinset]
  exact ⟨fun _ => Finset.mem_univ _, fun _ => uses_all s⟩

/-! ## One expert's part -/

/-- A comparison's bit as a number. -/
theorem hot (a b : BitVec 32) :
    FloatOps.sitofp (F := Ideal) .f32 (BitVec.setWidth 32 (IntOp.cmpi .eq a b)) = if a = b then (1 : EReal) else 0 := by
  show (((BitVec.setWidth 32 (IntOp.cmpi .eq a b)).toInt : ℝ) : EReal) = _
  by_cases h : a = b
  · rw [if_pos h, h]
    rw [show IntOp.cmpi .eq b b = 1#1 by simp [IntOp.cmpi]]
    norm_num
  · rw [if_neg h, show IntOp.cmpi .eq a b = 0#1 by simp only [IntOp.cmpi]; rw [beq_eq_false_iff_ne.2 h]; rfl]
    norm_num

theorem word_inj {a b : Fin 64} : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- A sum against one expert's mark is that expert's term. -/
theorem sum_hot (f : Fin 64 → EReal) (a : Fin 64) : ∑ j, f j * (if j = a then (1 : EReal) else 0) = f a := by
  rw [Finset.sum_eq_single a]
  · rw [if_pos rfl, mul_one]
  · intro e _ he; rw [if_neg he, mul_zero]
  · intro h; exact absurd (Finset.mem_univ a) h

/-- One expert's contribution at a token and a place. -/
theorem addTerm_at (x : FVec Ideal S512x256 .bf16) (g : FVec Ideal S512x64 .f32) (dev k : BitVec 32) (w : FVec Ideal S256x512 .bf16)
    (acc : FVec Ideal S512x512 .f32) (e : Fin 64) (he : Scalar.addi (Scalar.muli dev 2#32) k = BitVec.ofNat 32 e.val) (i f : Fin 512) :
    addTerm x g dev k w acc (ix2 i f) = (acc (ix2 i f) + g (ix2 i e) * ∑ k : Fin 256, x (ix2 i k) * w (ix2 k f) : EReal) := by
  pointwise [addTerm]
  simp only [he, hot, word_inj]
  rw [sum_hot (fun j => g (ix2 i j)) e]

/-- A token's scores. -/
def scoreAt (x : FVec Ideal S512x256 .bf16) (rw : FVec Ideal S256x64 .bf16) (i : Fin 512) (j : Fin 64) : EReal :=
  ∑ k : Fin 256, x (ix2 i k) * rw (ix2 k j)

/-- The gates a device computes, at a token and an expert. -/
theorem gates_at (x : FVec Ideal S512x256 .bf16) (rw : FVec Ideal S256x64 .bf16) (c0 c1 : IVec S512x1 32) (i : Fin 512) (a b j : Fin 64)
    (h0 : c0 (ix2 i 0) = BitVec.ofNat 32 a.val) (h1 : c1 (ix2 i 0) = BitVec.ofNat 32 b.val) :
    k0_pay3 (F := Ideal) x rw c0 c1 (ix2 i j) = gate (wt (scoreAt x rw i)) a b j := by
  pointwise [k0_pay3]
  simp only [h0, h1, hot, word_inj, ofBits_ninf]
  have hp (c : Fin 64) := sum_hot (wt (scoreAt x rw i)) c
  unfold wt top scoreAt at hp
  unfold gate wt top scoreAt
  rw [hp, hp]

/-! ## The sum -/

/-- What one slice adds at a token and a place. -/
def part (Wt : Dev nD → Fin 2 → Sl Ideal) (x : FVec Ideal S512x256 .bf16) (g : FVec Ideal S512x64 .f32) (i f : Fin 512) (p : Dev nD × Fin 2) : EReal :=
  g (ix2 i (ex p)) * ∑ k : Fin 256, x (ix2 i k) * (Wt p.1 p.2 : FVec Ideal S256x512 .bf16) (ix2 k f)

/-- The accumulator after a list of events, at a token and a place. -/
theorem accAfter_at (Wt : Dev nD → Fin 2 → Sl Ideal) (c : Dev nD) (x : FVec Ideal S512x256 .bf16) (g : FVec Ideal S512x64 .f32) (i f : Fin 512) :
    ∀ (es : List Ev) (acc : FVec Ideal S512x512 .f32),
      accAfter Wt c x g es acc (ix2 i f)
        = (acc (ix2 i f) + ((usesOf es).map fun s => part Wt x g i f (ownP c (.inr s))).sum : EReal)
  | [], acc => (add_zero _).symm
  | .send _ :: es, acc => accAfter_at Wt c x g i f es acc
  | .recv _ :: es, acc => accAfter_at Wt c x g i f es acc
  | .use s :: es, acc => by
    refine (accAfter_at Wt c x g i f es _).trans ?_
    rw [addTerm_at x g _ _ _ acc (ex (own c s, sub s)) (by rw [ownW_eq, sub2_eq]; exact ex_word _ _), add_assoc]
    rfl

/-- A device's result at a token and a place: the sum over all the experts of gate times value. -/
theorem outOf_at (Wt : Dev nD → Fin 2 → Sl Ideal) (c : Dev nD) (x : (cc0_stg0_0 : Ref sig .tc).ty.Contents (Elt Ideal))
    (rw : (cc0_stg1_0 : Ref sig .tc).ty.Contents (Elt Ideal)) (idx : (cc0_stg2_0 : Ref sig .tc).ty.Contents (Elt Ideal)) (i f : Fin 512) :
    outOf Wt c x rw idx (ix2 i f)
      = ∑ e : Fin 64, gatesOf x rw idx (ix2 i e) * ∑ k : Fin 256, k0_pay2 (F := Ideal) x (ix2 i k) * (Wt (unex e).1 (unex e).2 : FVec Ideal S256x512 .bf16) (ix2 k f) := by
  have h2 := (Function.Bijective.sum_comp (ownP_bij c) (part Wt (k0_pay2 x) (gatesOf x rw idx) i f)).trans
    (Equiv.sum_comp exEquiv.symm (part Wt (k0_pay2 x) (gatesOf x rw idx) i f)).symm
  have h3 : ∑ e, part Wt (k0_pay2 x) (gatesOf x rw idx) i f (exEquiv.symm e)
      = ∑ e : Fin 64, (gatesOf x rw idx (ix2 i e) * ∑ k : Fin 256, k0_pay2 (F := Ideal) x (ix2 i k) * (Wt (unex e).1 (unex e).2 : FVec Ideal S256x512 .bf16) (ix2 k f) : EReal) := by
    refine Finset.sum_congr rfl fun e _ => ?_
    show _ * _ = _
    rw [show ex (exEquiv.symm e) = e from exEquiv.apply_symm_apply e]
    rfl
  refine Eq.trans ?_ (h2.trans h3)
  rw [Fintype.sum_sum_type, Fin.sum_univ_two]
  unfold outOf
  rw [accAfter_at, sum_uses, addTerm_at _ _ _ _ _ _ (ex (c, 1)) (by rw [myW_eq]; exact ex_word c 1),
    addTerm_at _ _ _ _ _ _ (ex (c, 0)) (by rw [myW_eq]; exact ex_word c 0)]
  have h0 : k0_pay4 (F := Ideal) (ix2 i f) = (0 : EReal) := by pointwise [k0_pay4]
  rw [h0, zero_add]
  rfl

end Cert.KernelIdeal.Moe

end
-- ==== Proof.KernelIdeal.Result.lean ====
module

public import proofs.«01_k».proof.Proof.KernelIdeal.Launch
public import proofs.«01_k».proof.Proof.KernelIdeal.Value
public import Idealize.ShloMosaic.Lib.ValueLayout

/-! # What the run leaves, in terms of the arguments -/

@[expose] public section

noncomputable section

namespace Cert.KernelIdeal.Moe

open Cert.KernelIdeal Cert.KernelIdeal.Gen
open Idealize.ShloMosaic
open Idealize.ShloMosaic.TcCoe
open Idealize.ShloMosaic.Pipeline (Dat Cfg Window)
open Cert.Moe

section
variable {F : FTy → Type} [FloatOps F]
variable (m : (ℓ : Loc nD τ sig) → Buf (Elt F) ℓ) (ρ : Dev nD → PrngReg)

/-- A window that is one whole block reads its array. -/
theorem xstg_eq (c : Dev nD) : xstg m ρ c = m ((c : Thread nD τ).loc main_arg0) :=
  Memref.read_access_unit_zero (Elt F) main_arg0 (funext fun a => by fin_cases a <;> decide) (fun a => by fin_cases a <;> decide) _
theorem rwstg_eq (c : Dev nD) : rwstg m ρ c = m ((c : Thread nD τ).loc main_arg1) :=
  Memref.read_access_unit_zero (Elt F) main_arg1 (funext fun a => by fin_cases a <;> decide) (fun a => by fin_cases a <;> decide) _
theorem idstg_eq (c : Dev nD) : idstg m ρ c = m ((c : Thread nD τ).loc main_arg2) :=
  Memref.read_access_unit_zero (Elt F) main_arg2 (funext fun a => by fin_cases a <;> decide) (fun a => by fin_cases a <;> decide) _
theorem ewstg_eq (c : Dev nD) : ewstg m ρ c = m ((c : Thread nD τ).loc main_arg3) :=
  Memref.read_access_unit_zero (Elt F) main_arg3 (funext fun a => by fin_cases a <;> decide) (fun a => by fin_cases a <;> decide) _

/-- The result's array holds the device's result. -/
theorem finalA_o (c : Dev nD) : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt F) main_v1 (funext fun a => by fin_cases a <;> decide) (fun a => by fin_cases a <;> decide) _).symm.trans h

/-- A slice of the experts at an index. -/
theorem sliceOf_at (ew : S2x256x512.Idx → F .bf16) (x : Fin 2) (k : Fin 256) (f : Fin 512) :
    (sliceOf (F := F) ew x : FVec F S256x512 .bf16) (ix2 k f) = ew (ix3 x k f) := by
  show ew ((rPair x).idx (Shape.reshapeEquiv _ (ix2 k f))) = _
  rw [ix2_eq_valueIdx, ValueIdx.reshapeEquiv_ix2_1ab]
  congr 1; funext a; apply Fin.ext
  fin_cases a <;> simp [rPair, Rect.unit]

end

/-- The two columns of choices. -/
theorem col0_at (idx : S512x2.Idx → BitVec 32) (i : Fin 512) : (col0 (F := Ideal) idx : IVec S512x1 32) (ix2 i 0) = idx (ix2 i 0) := by
  show idx ((Rect.unit (s := S512x2) ![0, 0] S512x1.size inb_S512x2_S512x1_0_0).idx (ix2 i 0)) = _
  congr 1; funext a; apply Fin.ext
  fin_cases a <;> simp [Rect.unit]

theorem col1_at (idx : S512x2.Idx → BitVec 32) (i : Fin 512) : (col1 (F := Ideal) idx : IVec S512x1 32) (ix2 i 0) = idx (ix2 i 1) := by
  show idx ((Rect.unit (s := S512x2) ![0, 1] S512x1.size inb_S512x2_S512x1_0_1).idx (ix2 i 0)) = _
  congr 1; funext a; apply Fin.ext
  fin_cases a <;> simp [Rect.unit]

/-- A read that reshapes to the same shape reads the values. -/
theorem pay2_at (x : FVec Ideal S512x256 .bf16) (i : Fin 512) (k : Fin 256) : k0_pay2 (F := Ideal) x (ix2 i k) = x (ix2 i k) := by
  pointwise [k0_pay2]
theorem pay1_at (ew : FVec Ideal S2x256x512 .bf16) (y : Fin 2) (k : Fin 256) (f : Fin 512) : k0_pay1 (F := Ideal) ew (ix3 y k f) = ew (ix3 y k f) := by
  pointwise [k0_pay1]

/-- Scores of real tokens by a real router are real. -/
theorem score_real (x : FVec Ideal S512x256 .bf16) (rw_ : FVec Ideal S256x64 .bf16) (hx : ∀ i k, ∃ r : ℝ, x (ix2 i k) = r) (hr : ∀ k j, ∃ r : ℝ, rw_ (ix2 k j) = r)
    (i : Fin 512) (j : Fin 64) : ∃ r : ℝ, scoreAt x rw_ i j = r := by
  choose u hu using hx
  choose v hv using hr
  refine ⟨∑ k, u i k * v k j, ?_⟩
  unfold scoreAt
  rw [← coe_sum]
  exact Finset.sum_congr rfl fun k _ => by rw [hu, hv, EReal.coe_mul]

/-- A device's result: the two chosen experts' sum. -/
theorem outOf_two (Wt : Dev nD → Fin 2 → Sl Ideal) (c : Dev nD) (x : FVec Ideal S512x256 .bf16) (rw_ : FVec Ideal S256x64 .bf16) (idx : IVec S512x2 32)
    (hx : ∀ i k, ∃ r : ℝ, x (ix2 i k) = r) (hr : ∀ k j, ∃ r : ℝ, rw_ (ix2 k j) = r) (i f : Fin 512) (a b : Fin 64)
    (ha : idx (ix2 i 0) = BitVec.ofNat 32 a.val) (hb : idx (ix2 i 1) = BitVec.ofNat 32 b.val) :
    outOf Wt c x rw_ idx (ix2 i f)
      = two (wt (scoreAt x rw_ i)) (fun e => ∑ k : Fin 256, x (ix2 i k) * (Wt (unex e).1 (unex e).2 : FVec Ideal S256x512 .bf16) (ix2 k f)) a b := by
  have hs : scoreAt (k0_pay2 (F := Ideal) x) rw_ i = scoreAt x rw_ i := by
    funext j; unfold scoreAt
    exact Finset.sum_congr rfl fun k _ => by rw [pay2_at]
  have hg (e : Fin 64) : gatesOf (F := Ideal) x rw_ idx (ix2 i e) = gate (wt (scoreAt x rw_ i)) a b e :=
    (gates_at (k0_pay2 (F := Ideal) x) rw_ (col0 (F := Ideal) idx) (col1 (F := Ideal) idx) i a b e ((col0_at idx i).trans ha) ((col1_at idx i).trans hb)).trans (by rw [hs])
  rw [outOf_at, ← row_eq _ _ (score_real x rw_ hx hr i)]
  exact Finset.sum_congr rfl fun e _ => by rw [hg]; simp only [pay2_at]

end Cert.KernelIdeal.Moe

end
-- ==== Proof.KernelIdeal.Pre.lean ====
module

public import proofs.«01_k».proof.Defs
public import proofs.«01_k».proof.Proof.Gen.KernelIdeal
public import proofs.«01_k».proof.Proof.Gen.Pre_finite_and_routed_KernelIdeal
public import Idealize.ShloMosaic.Lib.Pointwise
public import Idealize.ShloMosaic.Lib.ReduceAll
public import Idealize.ShloMosaic.Lib.Affine

/-! # What the precondition says

The precondition's function of a device's blocks, read: the tokens and the router are real at every index, and every
choice is the word of one of the 64 experts. -/

@[expose] public section

noncomputable section

namespace Cert.Pre_finite_and_routed_KernelIdeal.Read

open Cert.Pre_finite_and_routed_KernelIdeal Cert.Pre_finite_and_routed_KernelIdeal.Gen
open Idealize.ShloMosaic

/-- A value whose magnitude is less than infinity is real. -/
theorem real_of_lt (v : EReal) (h : Ideal.cmp .olt (max v (-v)) (Ideal.ofBits .f32 0x7F800000#32) = 1#1) : ∃ r : ℝ, v = r := by
  have ht : Ideal.ofBits .f32 0x7F800000#32 = ⊤ := by simp [Ideal.ofBits, Ideal.ieee]
  rw [ht] at h
  have hl : max v (-v) < ⊤ := by
    by_contra hn
    simp [Ideal.cmp, hn] at h
  induction v with
  | bot => simp at hl
  | top => simp at hl
  | coe r => exact ⟨r, rfl⟩

/-- A word at least 0 and less than 64, read signed, is one of the 64. -/
theorem word_of_range (w : BitVec 32) (h0 : IntOp.cmpi .sge w 0#32 = 1#1) (h1 : IntOp.cmpi .slt w 64#32 = 1#1) : ∃ a : Fin 64, w = BitVec.ofNat 32 a.val := by
  have h0 := IntOp.cmpi_sge.1 h0
  have h1 := IntOp.cmpi_slt.1 h1
  have e0 : (0#32).toInt = 0 := rfl
  have e1 : (64#32).toInt = 64 := rfl
  rw [e0] at h0
  rw [e1] at h1
  have hl : w.toNat < 2 ^ 32 := w.isLt
  have hw := BitVec.toInt_eq_toNat_cond w
  have hn : w.toNat < 64 := by split at hw <;> omega
  exact ⟨⟨w.toNat, hn⟩, by simp⟩

instance : Subsingleton S_.Idx := ⟨fun a b => funext fun i => i.elim0⟩

variable (x : FVec Ideal S512x256 .bf16) (rw_ : FVec Ideal S256x64 .bf16) (idx : IVec S512x2 32) (ew : FVec Ideal S2x256x512 .bf16)

/-- The precondition's function, read. -/
theorem read (h : fn (F := Ideal) x rw_ idx ew = fun _ => 1#1) :
    (∀ i k, ∃ r : ℝ, x (ix2 i k) = r) ∧ (∀ k j, ∃ r : ℝ, rw_ (ix2 k j) = r) ∧ ∀ i j, ∃ a : Fin 64, idx (ix2 i j) = BitVec.ofNat 32 a.val := by
  have h0 := congrFun h ix0
  unfold fn fn_part1 at h0
  obtain ⟨h01, h2⟩ := IntOp.andi_eq_one.1 h0
  obtain ⟨h0, h1⟩ := IntOp.andi_eq_one.1 h01
  refine ⟨fun i k => ?_, fun k j => ?_, fun i j => ?_⟩
  · exact real_of_lt _ (Host.reduce_andi_all _ _ _ _ _ h0 (ix2 i k))
  · exact real_of_lt _ (Host.reduce_andi_all _ _ _ _ _ h1 (ix2 k j))
  · obtain ⟨ha, hb⟩ := IntOp.andi_eq_one.1 (Host.reduce_andi_all _ _ _ _ _ h2 (ix2 i j))
    exact word_of_range _ ha hb

end Cert.Pre_finite_and_routed_KernelIdeal.Read

end
-- ==== Proof.Reference.lean ====
module

public import proofs.«01_k».proof.Proof.Gen.ReferenceIdeal
public import proofs.«01_k».proof.Proof.Gen.ReferenceIdeal.Run
public import proofs.«01_k».proof.Proof.Row
public import Idealize.ShloMosaic.Lib.Pointwise
public import Idealize.ShloMosaic.Lib.ReduceAll
public import Idealize.ShloMosaic.Lib.Affine

/-! # The reference's result at an index

The reference's operations, named piece by piece, and what each piece holds at an index when every chosen expert is one
of the 64: the result at a token and a column is `two` of the token's scores and of the token through each expert. -/

@[expose] public section

noncomputable section

namespace Cert.ReferenceIdeal.Moe

open Cert.ReferenceIdeal Cert.ReferenceIdeal.Gen
open Idealize.ShloMosaic
open Cert.Moe

/-! ## The pieces -/

/-- The scores of every token for every expert. -/
def scores (x : FVec Ideal S16384x256 .bf16) (rw_ : FVec Ideal S256x64 .bf16) : FVec Ideal S16384x64 .f32 :=
  Host.dotGeneral dot_S16384x256_S256x64_S16384x64_1_0_0_1_n_n none (extf .f32 x bitsLt_bf16_f32) (extf .f32 rw_ bitsLt_bf16_f32)

/-- The exponential of each score less its row's largest. -/
def expo (s : FVec Ideal S16384x64 .f32) : FVec Ideal S16384x64 .f32 :=
  Host.exp (subf s (broadcastInDim S16384x64 ![0, 1] bcast_S16384x1_S16384x64_0_1 (broadcastInDim S16384x1 ![0] bcast_S16384_S16384x1_0
    (Host.reduce FloatOps.maximumf s (constant S_ .f32 0xFF800000#32) reducesTo_S16384x64_S16384_d1 h_S_))))

/-- Each row over its sum. -/
def share (p : FVec Ideal S16384x64 .f32) : FVec Ideal S16384x64 .f32 :=
  Host.divf p (broadcastInDim S16384x64 ![0, 1] bcast_S16384x1_S16384x64_0_1 (broadcastInDim S16384x1 ![0] bcast_S16384_S16384x1_0
    (Host.reduceAdd p (constant S_ .f32 0x00000000#32) reducesTo_S16384x64_S16384_d1 h_S_)))

/-- The choices with negative words moved up by 64, one more axis at the end. -/
def wrap (idx : IVec S16384x2 32) : IVec S16384x2x1 32 :=
  shapeCast _ (select (cmpi .slt idx (broadcastInDim S16384x2 ![] bcast_S_S16384x2 (constantI S_ 32 0#32)))
    (addi idx (broadcastInDim S16384x2 ![] bcast_S_S16384x2 (constantI S_ 32 64#32))) idx) shapeCasts_S16384x2_S16384x2x1

/-- Which choices lie in range. -/
def mask (w : IVec S16384x2x1 32) : IVec S16384x2 1 :=
  Host.reduce IntOp.andi (andi (cmpi .sge w (broadcastInDim S16384x2x1 ![] bcast_S_S16384x2x1 (constantI S_ 32 0#32)))
    (cmpi .sle w (broadcastInDim S16384x2x1 ![0, 1, 2] bcast_S1x1x1_S16384x2x1_0_1_2 (broadcastInDim S1x1x1 ![2] bcast_S1_S1x1x1_2 (constantI S1 32 63#32)))))
    (constantI S_ 1 1#1) reducesTo_S16384x2x1_S16384x2_d2 h_S_

/-- The chosen shares of every token. -/
def chosen (p : FVec Ideal S16384x64 .f32) (idx : IVec S16384x2 32) : FVec Ideal S16384x2 .f32 :=
  select (mask (wrap idx)) (Host.gather gather_S16384x64_S16384x2x1_S16384x2_n_1_0_0_1_2_11 p (wrap idx))
    (broadcastInDim S16384x2 ![] bcast_S_S16384x2 (constant S_ .f32 0x7FC00000#32))

/-- One column of choices, with negative words moved up by 64. -/
def wrap1 (e : IVec S16384x1 32) : IVec S16384x1 32 :=
  broadcastInDim S16384x1 ![0] bcast_S16384_S16384x1_0 (select (cmpi .slt (shapeCast _ e shapeCasts_S16384x1_S16384) (broadcastInDim S16384 ![] bcast_S_S16384 (constantI S_ 32 0#32)))
    (addi (shapeCast _ e shapeCasts_S16384x1_S16384) (broadcastInDim S16384 ![] bcast_S_S16384 (constantI S_ 32 64#32))) (shapeCast _ e shapeCasts_S16384x1_S16384))

/-- Every token through the expert its column of choices names. -/
def through (x : FVec Ideal S16384x256 .bf16) (ew : FVec Ideal S64x256x512 .bf16) (e : IVec S16384x1 32) : FVec Ideal S16384x512 .f32 :=
  Host.dotGeneral dot_S16384x256_S16384x256x512_S16384x512_1_1_n_2_0_0 none (extf .f32 x bitsLt_bf16_f32)
    (Host.gather gather_S64x256x512_S16384x1_S16384x256x512_12_0_n_n_0_1_1256512 (extf .f32 ew bitsLt_bf16_f32) (wrap1 e))

/-- A column's part of the result. -/
def term (g h : FVec Ideal S16384x1 .f32) (y : FVec Ideal S16384x512 .f32) : FVec Ideal S16384x512 .f32 :=
  mulf (broadcastInDim S16384x512 ![0, 1] bcast_S16384x1_S16384x512_0_1 (Host.divf g h)) y

/-- The columns of a two-column array. -/
def fst {α : Type} (v : S16384x2.Idx → α) : S16384x1.Idx → α := extractStridedSlice S16384x1 ![0, 0] v slices_S16384x2_S16384x1_0_0
def snd {α : Type} (v : S16384x2.Idx → α) : S16384x1.Idx → α := extractStridedSlice S16384x1 ![0, 1] v slices_S16384x2_S16384x1_0_1

/-- The reference's result. -/
def refOut (x : FVec Ideal S16384x256 .bf16) (rw_ : FVec Ideal S256x64 .bf16) (idx : IVec S16384x2 32) (ew : FVec Ideal S64x256x512 .bf16) : FVec Ideal S16384x512 .f32 :=
  let p := chosen (share (expo (scores x rw_))) idx
  addf (term (fst p) (addf (fst p) (snd p)) (through x ew (fst idx))) (term (snd p) (addf (fst p) (snd p)) (through x ew (snd idx)))

set_option maxRecDepth 8192 in
/-- The run's result is that function of the arguments. -/
theorem res_eq (m : (ℓ : Loc nD τ sig) → Buf (Elt Ideal) ℓ) (c : Dev nD) :
    Value.res_main_v43 (F := Ideal) m c = refOut (m ((c.tc : Thread nD τ).loc main_arg0)) (m ((c.tc : Thread nD τ).loc main_arg1))
      (m ((c.tc : Thread nD τ).loc main_arg2)) (m ((c.tc : Thread nD τ).loc main_arg3)) := by
  unfold Value.res_main_v43
  rfl

/-! ## The gathers -/

/-- A word below 64 is its number when read signed and clamped. -/
theorem clamp_word (a : Fin 64) : min (BitVec.ofNat 32 a.val).toInt.toNat 63 = a.val := by
  revert a; decide

/-- The choice's gather at an index. -/
theorem pick_at (p : S16384x64.Idx → EReal) (w : IVec S16384x2x1 32) (t : Fin 16384) (j : Fin 2) (a : Fin 64)
    (h : w (ix3 t j 0) = BitVec.ofNat 32 a.val) :
    Host.gather gather_S16384x64_S16384x2x1_S16384x2_n_1_0_0_1_2_11 p w (ix2 t j) = p (ix2 t a) := by
  unfold Host.gather
  generalize hd : gather_S16384x64_S16384x2x1_S16384x2_n_1_0_0_1_2_11 = d
  have h0 : d.start (ix2 t j) w (0 : Fin 2) + d.batchCoord (ix2 t j) (0 : Fin 2) + d.offCoord (ix2 t j) (0 : Fin 2) = t.val := by
    subst hd
    rw [GatherDims.start_batching _ _ _ _ (List.mem_singleton.2 rfl), GatherDims.offCoord_eq_zero _ _ _ fun h => ((GatherDims.mem_sKept _ _).1 h).2 (List.mem_singleton.2 rfl)]
    simp only [Nat.zero_add, Nat.add_zero]
    unfold GatherDims.batchCoord
    rw [dif_pos (show (0 : Fin 2) ∈ (gather_S16384x64_S16384x2x1_S16384x2_n_1_0_0_1_2_11).operandBatchingDims from List.mem_singleton.2 rfl)]
    rfl
  have h1 : d.start (ix2 t j) w (1 : Fin 2) + d.batchCoord (ix2 t j) (1 : Fin 2) + d.offCoord (ix2 t j) (1 : Fin 2) = a.val := by
    subst hd
    rw [GatherDims.batchCoord_eq_zero _ _ _ (by decide), GatherDims.offCoord_eq_zero _ _ _ fun h => ((GatherDims.mem_sKept _ _).1 h).1 (List.mem_singleton.2 rfl)]
    simp only [Nat.add_zero]
    unfold GatherDims.start
    rw [dif_pos (show (1 : Fin 2) ∈ (gather_S16384x64_S16384x2x1_S16384x2_n_1_0_0_1_2_11).startIndexMap from List.mem_singleton.2 rfl)]
    refine Eq.trans (congrArg (fun z => min (w z).toInt.toNat 63) (?_ : _ = ix3 t j 0)) (by rw [h]; exact clamp_word a)
    funext z; refine Fin.ext ?_
    match z with
    | ⟨0, _⟩ => rfl
    | ⟨1, _⟩ => rfl
    | ⟨2, _⟩ => rfl
  refine congrArg p (funext fun b => Fin.ext ?_)
  match b with
  | ⟨0, _⟩ => exact h0
  | ⟨1, _⟩ => exact h1

/-- The experts' gather at an index. -/
theorem expert_at (y : S64x256x512.Idx → EReal) (w : IVec S16384x1 32) (t : Fin 16384) (k : Fin 256) (f : Fin 512) (a : Fin 64)
    (h : w (ix2 t 0) = BitVec.ofNat 32 a.val) :
    Host.gather gather_S64x256x512_S16384x1_S16384x256x512_12_0_n_n_0_1_1256512 y w (ix3 t k f) = y (ix3 a k f) := by
  unfold Host.gather
  generalize hd : gather_S64x256x512_S16384x1_S16384x256x512_12_0_n_n_0_1_1256512 = d
  have hb (b : Fin 3) : d.batchCoord (ix3 t k f) b = 0 := by
    subst hd
    exact GatherDims.batchCoord_eq_zero _ _ _ (List.not_mem_nil)
  have h0 : d.start (ix3 t k f) w (0 : Fin 3) + d.batchCoord (ix3 t k f) (0 : Fin 3) + d.offCoord (ix3 t k f) (0 : Fin 3) = a.val := by
    rw [hb]
    subst hd
    rw [GatherDims.offCoord_eq_zero _ _ _ fun h => ((GatherDims.mem_sKept _ _).1 h).1 (List.mem_singleton.2 rfl)]
    simp only [Nat.add_zero]
    unfold GatherDims.start
    rw [dif_pos (show (0 : Fin 3) ∈ (gather_S64x256x512_S16384x1_S16384x256x512_12_0_n_n_0_1_1256512).startIndexMap from List.mem_singleton.2 rfl)]
    refine Eq.trans (congrArg (fun z => min (w z).toInt.toNat 63) (?_ : _ = ix2 t 0)) (by rw [h]; exact clamp_word a)
    funext z; refine Fin.ext ?_
    match z with
    | ⟨0, _⟩ => rfl
    | ⟨1, _⟩ => rfl
  have hr (b : Fin 3) (h1 : b ≠ 0) : d.start (ix3 t k f) w b + d.batchCoord (ix3 t k f) b + d.offCoord (ix3 t k f) b = (ix3 a k f b).val := by
    rw [hb]
    subst hd
    unfold GatherDims.start GatherDims.offCoord
    rw [dif_neg (show b ∉ (gather_S64x256x512_S16384x1_S16384x256x512_12_0_n_n_0_1_1256512).startIndexMap from fun h => h1 (List.mem_singleton.1 h)),
      dif_pos (show b ∈ (gather_S64x256x512_S16384x1_S16384x256x512_12_0_n_n_0_1_1256512).sKept from (GatherDims.mem_sKept _ _).2 ⟨fun h => h1 (List.mem_singleton.1 h), List.not_mem_nil⟩)]
    simp only [Nat.zero_add]
    match b, h1 with
    | ⟨1, _⟩, _ => rfl
    | ⟨2, _⟩, _ => rfl
  refine congrArg y (funext fun b => Fin.ext ?_)
  match b with
  | ⟨0, _⟩ => exact h0
  | ⟨1, _⟩ => exact hr 1 (by decide)
  | ⟨2, _⟩ => exact hr 2 (by decide)

/-! ## The pieces at an index -/

section
variable (x : FVec Ideal S16384x256 .bf16) (rw_ : FVec Ideal S256x64 .bf16) (idx : IVec S16384x2 32) (ew : FVec Ideal S64x256x512 .bf16)

theorem scores_at (t : Fin 16384) (j : Fin 64) : scores x rw_ (ix2 t j) = ∑ k : Fin 256, x (ix2 t k) * rw_ (ix2 k j) := by
  pointwise [scores]

theorem expo_at (s : FVec Ideal S16384x64 .f32) (t : Fin 16384) (j : Fin 64) : expo s (ix2 t j) = wt (fun j => s (ix2 t j)) j := by
  pointwise [expo, wt, top]
  rw [ofBits_ninf]

theorem share_at (p : FVec Ideal S16384x64 .f32) (t : Fin 16384) (j : Fin 64) : share p (ix2 t j) = nrm (fun j => p (ix2 t j)) j := by
  pointwise [share, nrm]

/-- A word below 64 is not negative: wrapping leaves it. -/
theorem wrap_word (a : Fin 64) : Scalar.select (IntOp.cmpi CmpIPredicate.slt (BitVec.ofNat 32 a.val) 0#32) (IntOp.addi (BitVec.ofNat 32 a.val) 64#32) (BitVec.ofNat 32 a.val) = BitVec.ofNat 32 a.val := by
  revert a; decide

/-- A word below 64 is in range. -/
theorem range_word (a : Fin 64) : IntOp.andi (IntOp.cmpi CmpIPredicate.sge (BitVec.ofNat 32 a.val) 0#32) (IntOp.cmpi CmpIPredicate.sle (BitVec.ofNat 32 a.val) 63#32) = 1#1 := by
  revert a; decide

theorem wrap_at (t : Fin 16384) (j : Fin 2) (a : Fin 64) (h : idx (ix2 t j) = BitVec.ofNat 32 a.val) : wrap idx (ix3 t j 0) = BitVec.ofNat 32 a.val := by
  pointwise [wrap, h]
  exact wrap_word a

theorem wrap1_at (e : IVec S16384x1 32) (t : Fin 16384) (a : Fin 64) (h : e (ix2 t 0) = BitVec.ofNat 32 a.val) : wrap1 e (ix2 t 0) = BitVec.ofNat 32 a.val := by
  pointwise [wrap1, h]
  exact wrap_word a

/-- Where every choice is in range the mask is set. -/
theorem mask_at (w : IVec S16384x2x1 32) (hw : ∀ t j, ∃ a : Fin 64, w (ix3 t j 0) = BitVec.ofNat 32 a.val) (t : Fin 16384) (j : Fin 2) : mask w (ix2 t j) = 1#1 := by
  unfold mask
  refine Host.reduce_andi_one _ _ _ _ _ rfl fun i => ?_
  idx_vars i
  obtain rfl : i2 = 0 := Subsingleton.elim _ _
  obtain ⟨a, h⟩ := hw i0 i1
  pointwise [h]
  exact range_word a

/-- The chosen shares. -/
theorem chosen_at (p : FVec Ideal S16384x64 .f32) (hi : ∀ t j, ∃ a : Fin 64, idx (ix2 t j) = BitVec.ofNat 32 a.val) (t : Fin 16384) (j : Fin 2) (a : Fin 64)
    (h : idx (ix2 t j) = BitVec.ofNat 32 a.val) : chosen p idx (ix2 t j) = p (ix2 t a) := by
  have hm := mask_at (wrap idx) (fun t j => (hi t j).imp fun a h => wrap_at idx t j a h) t j
  have hp := pick_at p (wrap idx) t j a (wrap_at idx t j a h)
  have hs (c : IVec S16384x2 1) (u v : FVec Ideal S16384x2 .f32) (hc : c (ix2 t j) = 1#1) : select c u v (ix2 t j) = u (ix2 t j) := by
    show Scalar.select (c (ix2 t j)) (u (ix2 t j)) (v (ix2 t j)) = _
    rw [hc]; rfl
  unfold chosen
  rw [hs _ _ _ hm, hp]

/-- A token through its expert. -/
theorem through_at (e : IVec S16384x1 32) (t : Fin 16384) (f : Fin 512) (a : Fin 64) (h : e (ix2 t 0) = BitVec.ofNat 32 a.val) :
    through x ew e (ix2 t f) = ∑ k : Fin 256, x (ix2 t k) * ew (ix3 a k f) := by
  pointwise [through]
  refine Finset.sum_congr rfl fun k _ => ?_
  rw [expert_at _ _ t k f a (wrap1_at e t a h)]
  rfl

theorem term_at (g h : FVec Ideal S16384x1 .f32) (y : FVec Ideal S16384x512 .f32) (t : Fin 16384) (f : Fin 512) :
    term g h y (ix2 t f) = Ideal.div (g (ix2 t 0)) (h (ix2 t 0)) * y (ix2 t f) := by
  pointwise [term]

theorem fst_at {α : Type} (v : S16384x2.Idx → α) (t : Fin 16384) : fst v (ix2 t 0) = v (ix2 t 0) := by
  pointwise [fst]

theorem snd_at {α : Type} (v : S16384x2.Idx → α) (t : Fin 16384) : snd v (ix2 t 0) = v (ix2 t 1) := by
  pointwise [snd]

/-- The reference's result at a token and a column. -/
theorem refOut_at (hi : ∀ t j, ∃ a : Fin 64, idx (ix2 t j) = BitVec.ofNat 32 a.val) (t : Fin 16384) (f : Fin 512) (a b : Fin 64)
    (ha : idx (ix2 t 0) = BitVec.ofNat 32 a.val) (hb : idx (ix2 t 1) = BitVec.ofNat 32 b.val) :
    refOut x rw_ idx ew (ix2 t f) = two (wt fun j => ∑ k : Fin 256, x (ix2 t k) * rw_ (ix2 k j)) (fun e => ∑ k : Fin 256, x (ix2 t k) * ew (ix3 e k f)) a b := by
  have hc (j : Fin 2) (e : Fin 64) (h : idx (ix2 t j) = BitVec.ofNat 32 e.val) :
      chosen (share (expo (scores x rw_))) idx (ix2 t j) = nrm (wt fun j => ∑ k : Fin 256, x (ix2 t k) * rw_ (ix2 k j)) e := by
    rw [chosen_at idx _ hi t j e h, share_at]
    simp only [expo_at, scores_at]
  have hs (u v : FVec Ideal S16384x1 .f32) : addf u v (ix2 t 0) = u (ix2 t 0) + v (ix2 t 0) := rfl
  have ho (u v : FVec Ideal S16384x512 .f32) : addf u v (ix2 t f) = u (ix2 t f) + v (ix2 t f) := rfl
  unfold refOut two
  dsimp only
  rw [ho, term_at, term_at, hs, fst_at, snd_at, hc 0 a ha, hc 1 b hb, through_at x ew _ t f a ((fst_at idx t).trans ha), through_at x ew _ t f b ((snd_at idx t).trans hb)]

end

end Cert.ReferenceIdeal.Moe

end
-- ==== Proof.Algebra.lean ====
module

public import proofs.«01_k».proof.Proof.KernelIdeal.Result
public import proofs.«01_k».proof.Proof.KernelIdeal.Pre
public import proofs.«01_k».proof.Proof.Reference
public import Idealize.ShloMosaic.Lib.LayoutAt

/-! # Each device's result is its block of the reference's -/

@[expose] public section

noncomputable section

namespace Cert.Moe

open Idealize.ShloMosaic
open Idealize.ShloMosaic.Layout (Tiles)
open Cert.KernelIdeal.Moe

/-- The token, among all of them, that is a device's `i`th. -/
def tok (c : Fin 32) (i : Fin 512) : Fin 16384 := ⟨c.val * 512 + i.val, by omega⟩

/-- Every token is some device's. -/
theorem tok_surj (t : Fin 16384) : ∃ c i, tok c i = t :=
  ⟨⟨t.val / 512, by omega⟩, ⟨t.val % 512, by omega⟩, Fin.ext (by show t.val / 512 * 512 + t.val % 512 = t.val; omega)⟩

/-- A device's block of rows, at an index. -/
theorem rows_at {C : ℕ} {α : Type} (h : Tiles ⟨2, ![512, C]⟩ ⟨2, ![16384, C]⟩ 0 32) (v : (⟨2, ![16384, C]⟩ : Shape).Idx → α) (c : Fin 32) (i : Fin 512) (j : Fin C) :
    Layout.block ⟨2, ![512, C]⟩ ⟨2, ![16384, C]⟩ 0 32 c v h (ix2 i j) = v (ix2 (tok c i) j) := by
  rw [Layout.block_apply]
  refine congrArg v (funext fun b => Fin.ext ?_)
  rw [h.idx_val]
  match b with
  | ⟨0, _⟩ => rfl
  | ⟨1, _⟩ => rfl

/-- A device's block of the experts, at an index: the expert numbered by the device and the place. -/
theorem experts_at {α : Type} (h : Tiles ⟨3, ![2, 256, 512]⟩ ⟨3, ![64, 256, 512]⟩ 0 32) (v : (⟨3, ![64, 256, 512]⟩ : Shape).Idx → α) (e : Fin 64) (k : Fin 256) (f : Fin 512) :
    Layout.block ⟨3, ![2, 256, 512]⟩ ⟨3, ![64, 256, 512]⟩ 0 32 (unex e).1 v h (ix3 (unex e).2 k f) = v (ix3 e k f) := by
  rw [Layout.block_apply]
  refine congrArg v (funext fun b => Fin.ext ?_)
  rw [h.idx_val]
  match b with
  | ⟨0, _⟩ => show e.val / 2 * 2 + e.val % 2 = e.val; omega
  | ⟨1, _⟩ => rfl
  | ⟨2, _⟩ => rfl

section
open Cert.KernelIdeal (nD S512x256 S512x2 S256x512 S512x512 S256x64)
open Cert.ReferenceIdeal (S16384x256 S16384x2 S64x256x512 S16384x512)

variable (X : FVec Ideal S16384x256 .bf16) (R : FVec Ideal S256x64 .bf16) (I : IVec S16384x2 32) (E : FVec Ideal S64x256x512 .bf16)
  (x : Dev nD → FVec Ideal S512x256 .bf16) (idx : Dev nD → IVec S512x2 32) (Wt : Dev nD → Fin 2 → Sl Ideal)
  (hx : ∀ c i k, x c (ix2 i k) = X (ix2 (tok c i) k)) (hi : ∀ c i j, idx c (ix2 i j) = I (ix2 (tok c i) j))
  (hW : ∀ e k f, (Wt (unex e).1 (unex e).2 : FVec Ideal S256x512 .bf16) (ix2 k f) = E (ix3 e k f))
  (px : ∀ c i k, ∃ r : ℝ, x c (ix2 i k) = r) (pr : ∀ k j, ∃ r : ℝ, R (ix2 k j) = r) (pi : ∀ c i j, ∃ a : Fin 64, idx c (ix2 i j) = BitVec.ofNat 32 a.val)

include hx hi hW px pr pi in
/-- Device `c`'s result at an index, of its blocks of the arguments, is the reference's at the token's row. -/
theorem outOf_row (c : Dev nD) (i f : Fin 512) :
    outOf (F := Ideal) Wt c (x c) R (idx c) (ix2 i f) = Cert.ReferenceIdeal.Moe.refOut X R I E (ix2 (tok c i) f) := by
  obtain ⟨a, ha⟩ := pi c i 0
  obtain ⟨b, hb⟩ := pi c i 1
  have hg : ∀ t j, ∃ a : Fin 64, I (ix2 t j) = BitVec.ofNat 32 a.val := fun t j => by
    obtain ⟨c, i, rfl⟩ := tok_surj t
    rw [← hi]; exact pi c i j
  rw [outOf_two Wt c (x c) R (idx c) (px c) pr i f a b ha hb,
    Cert.ReferenceIdeal.Moe.refOut_at X R I E hg (tok c i) f a b ((hi c i 0).symm.trans ha) ((hi c i 1).symm.trans hb)]
  unfold scoreAt
  simp only [hx, hW]

end

/-- Two coordinates make an index. -/
theorem ix2_self {a b : ℕ} (z : (⟨2, ![a, b]⟩ : Shape).Idx) : ∃ (i : Fin a) (j : Fin b), z = ix2 i j :=
  ⟨z 0, z 1, funext fun k => by match k with | ⟨0, _⟩ => rfl | ⟨1, _⟩ => rfl⟩

open Cert.KernelIdeal (nD τ sig main_arg0 main_arg1 main_arg2 main_arg3)

/-- Where each device holds its blocks of the reference's arguments, and the precondition holds, each device's result is
    its block of the reference's. -/
theorem outAt_block (m : (ℓ : Loc Cert.KernelIdeal.nD Cert.KernelIdeal.τ Cert.KernelIdeal.sig) → Buf (Elt Ideal) ℓ) (ρ : Dev Cert.KernelIdeal.nD → PrngReg)
    (X : FVec Ideal Cert.ReferenceIdeal.S16384x256 .bf16) (R : FVec Ideal Cert.KernelIdeal.S256x64 .bf16) (I : IVec Cert.ReferenceIdeal.S16384x2 32) (E : FVec Ideal Cert.ReferenceIdeal.S64x256x512 .bf16)
    (hpre : Cert.Pre_KernelIdeal_finite_and_routed_KernelIdeal m)
    (h : ∀ c : Dev nD, m ((c.tc : Thread nD τ).loc main_arg0) = Layout.block ⟨2, ![512, 256]⟩ ⟨2, ![16384, 256]⟩ 0 32 c X
      ∧ m ((c.tc : Thread nD τ).loc main_arg1) = R
      ∧ m ((c.tc : Thread nD τ).loc main_arg2) = Layout.block ⟨2, ![512, 2]⟩ ⟨2, ![16384, 2]⟩ 0 32 c I
      ∧ m ((c.tc : Thread nD τ).loc main_arg3) = Layout.block ⟨3, ![2, 256, 512]⟩ ⟨3, ![64, 256, 512]⟩ 0 32 c E) (c : Dev nD) :
    outAt m ρ c = Layout.block ⟨2, ![512, 512]⟩ ⟨2, ![16384, 512]⟩ 0 32 c (Cert.ReferenceIdeal.Moe.refOut X R I E) := by
  have hp (c : Dev nD) := Cert.Pre_finite_and_routed_KernelIdeal.Read.read _ _ _ _ (hpre c)
  funext z
  obtain ⟨i, f, rfl⟩ := ix2_self z
  refine Eq.trans ?_ (rows_at _ _ c i f).symm
  unfold outAt
  rw [rwstg_eq, (h c).2.1]
  refine outOf_row X R I E (fun c => xstg m ρ c) (fun c => idstg m ρ c) (wts m ρ) (fun c i k => ?_) (fun c i j => ?_) (fun e k f => ?_)
    (fun c i k => ?_) (fun k j => ?_) (fun c i j => ?_) c i f
  · rw [xstg_eq, (h c).1]; exact rows_at _ _ c i k
  · rw [idstg_eq, (h c).2.2.1]; exact rows_at _ _ c i j
  · unfold wts
    refine (sliceOf_at _ _ k f).trans ((pay1_at _ _ k f).trans ?_)
    rw [ewstg_eq, (h _).2.2.2]; exact experts_at _ _ e k f
  · rw [xstg_eq]; exact (hp c).1 i k
  · rw [← (h c).2.1]; exact (hp c).2.1 k j
  · rw [idstg_eq]; exact (hp c).2.2 i j

end Cert.Moe

end
-- ==== Proof.lean ====
module

public import proofs.«01_k».proof.Proof.Gen.ReferenceIdeal.Run
public import proofs.«01_k».proof.Proof.Gen.Pre_finite_and_routed_KernelIdeal
public import proofs.«01_k».proof.Proof.Gen.Pre_finite_and_routed_ReferenceIdeal
public import proofs.«01_k».proof.Proof.Algebra
public import proofs.«01_k».proof.Proof.Kernel.Launch
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel's run ends with its arguments unchanged and every counter at zero, with floats as words. -/
theorem frame_kernel : Cert.quiescent_Kernel := by
  intro m ρ _
  exact (θ_run Cert.Kernel.defs _ _).mono (fun _ h => ⟨fun c => ⟨(h.1 c 0).trans ((Cert.Kernel.Moe.dats m ρ 0 c).arrAt_in 0 rfl _),
      (h.1 c 1).trans ((Cert.Kernel.Moe.dats m ρ 0 c).arrAt_in 1 rfl _), (h.1 c 2).trans ((Cert.Kernel.Moe.dats m ρ 0 c).arrAt_in 2 rfl _),
      (h.1 c 3).trans ((Cert.Kernel.Moe.dats m ρ 0 c).arrAt_in 3 rfl _)⟩, h.2⟩)
    (Cert.Kernel.Moe.run_main (F := Bits) m ρ)

/-- What the kernel's run leaves at the ideal instance: the result, the arguments and the counters. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD, r.2.mem ((c.tc : Thread Cert.KernelIdeal.nD Cert.KernelIdeal.τ).loc Cert.KernelIdeal.main_v1) = Cert.KernelIdeal.Moe.outAt m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c 4).trans (Cert.KernelIdeal.Moe.finalA_o m ρ c),
      (h.1 c 0).trans ((Cert.KernelIdeal.Moe.dats m ρ 0 c).arrAt_in 0 rfl _),
      (h.1 c 1).trans ((Cert.KernelIdeal.Moe.dats m ρ 0 c).arrAt_in 1 rfl _), (h.1 c 2).trans ((Cert.KernelIdeal.Moe.dats m ρ 0 c).arrAt_in 2 rfl _),
      (h.1 c 3).trans ((Cert.KernelIdeal.Moe.dats m ρ 0 c).arrAt_in 3 rfl _)⟩, h.2⟩)
    (Cert.KernelIdeal.Moe.run_main (F := Ideal) m ρ)

/-- The kernel's run ends with its arguments unchanged and every counter at zero, at the ideal instance. -/
theorem frame_ideal : Cert.quiescent_KernelIdeal := by
  intro m ρ _
  exact (θ_run Cert.KernelIdeal.defs _ _).mono (fun _ h => ⟨fun c => (h.1 c).2, h.2⟩) (run_ideal m ρ)

/-- The reference's run ends with its arguments unchanged; it declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every device of the kernel ends holding its block of the reference's result. -/
theorem value : Cert.algebraic_KernelIdeal_ReferenceIdeal_pre_finite_and_routed_KernelIdeal := by
  intro m ρ m' ρ' hpre hargs
  refine ⟨Cert.ReferenceIdeal.Value.res_main_v43 (F := Ideal) m' 0, ?_, ?_⟩
  · refine (θ_run Cert.KernelIdeal.defs _ _).mono (fun _ h c => ⟨(h.1 c).1.trans ?_, (h.1 c).2⟩) (run_ideal m ρ)
    rw [Cert.ReferenceIdeal.Moe.res_eq]
    exact Cert.Moe.outAt_block m ρ _ _ _ _ hpre hargs c
  · exact (θ_run Cert.ReferenceIdeal.defs _ _).mono (fun _ h => h 0) (Cert.ReferenceIdeal.Value.run (F := Ideal) m' ρ')

/-- Everything the certificate claims. -/
theorem claim : Cert.Claim :=
  ⟨Cert.Kernel.Gen.facts, Cert.KernelIdeal.Gen.facts, Cert.ReferenceIdeal.Gen.facts, Cert.Pre_finite_and_routed_KernelIdeal.Gen.facts,
    Cert.Pre_finite_and_routed_ReferenceIdeal.Gen.facts, frame_kernel, frame_ideal, fun m ρ _ => frame_ideal m ρ trivial, frame_reference,
    fun m ρ _ => frame_reference m ρ trivial, trivial, value⟩

end Cert.Proof

end
